-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_central [hPre_finite_and_central : Cert.Pre_finite_and_central.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_central.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_central.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_central [hPre_finite_and_central : Cert.Pre_finite_and_central.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_central.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_central.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_central [hKernelIdeal : Cert.KernelIdeal.Facts] [hPre_finite_and_central : Cert.Pre_finite_and_central.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_central m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_central [hReferenceIdeal : Cert.ReferenceIdeal.Facts] [hPre_finite_and_central : Cert.Pre_finite_and_central.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_central m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "bins_per_radian" .f32 0x4022F983#32 ((33554432 / 13176795 : ℝ) : EReal)

def algebraic_KernelIdeal_ReferenceIdeal_pre_finite_and_central [hKernelIdeal : Cert.KernelIdeal.Facts] [hReferenceIdeal : Cert.ReferenceIdeal.Facts] [hPre_finite_and_central : Cert.Pre_finite_and_central.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_central m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v641) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_central : Cert.Pre_finite_and_central.Facts),
    quiescent_Kernel (hKernel := hKernel)
    ∧ quiescent_KernelIdeal (hKernelIdeal := hKernelIdeal)
    ∧ quiescent_KernelIdeal_pre_finite_and_central (hKernelIdeal := hKernelIdeal) (hPre_finite_and_central := hPre_finite_and_central)
    ∧ quiescent_ReferenceIdeal (hReferenceIdeal := hReferenceIdeal)
    ∧ quiescent_ReferenceIdeal_pre_finite_and_central (hReferenceIdeal := hReferenceIdeal) (hPre_finite_and_central := hPre_finite_and_central)
    ∧ preserves_Kernel_KernelIdeal
    ∧ algebraic_KernelIdeal_ReferenceIdeal_pre_finite_and_central (hKernelIdeal := hKernelIdeal) (hReferenceIdeal := hReferenceIdeal) (hPre_finite_and_central := hPre_finite_and_central)
-- ==== Pre_finite_and_central.lean ====
abbrev S64x64x64 : Shape := ⟨3, ![64, 64, 64]⟩
abbrev S3x1x3x3x3 : Shape := ⟨5, ![3, 1, 3, 3, 3]⟩
abbrev S_ : Shape := ⟨0, ![]⟩

class Facts : Prop where
  bcast_S_S64x64x64 : S_.BroadcastsInDim S64x64x64 (![] : Fin 0 → Fin S64x64x64.rank)
  bcast_S_S3x1x3x3x3 : S_.BroadcastsInDim S3x1x3x3x3 (![] : Fin 0 → Fin S3x1x3x3x3.rank)

variable [Facts]

def fn_part1 {F : FTy → Type} [FloatOps F] (main_arg1 : FVec F S3x1x3x3x3 .f32) (main_v2 : IVec S64x64x64 1) (main_v3 : IVec S3x1x3x3x3 32) (main_v5 : IVec S3x1x3x3x3 32) (main_v6 : IVec S3x1x3x3x3 32) (main_v12 : IVec S3x1x3x3x3 32) (main_v17 : IVec S3x1x3x3x3 1) (main_c_3 : IVec S_ 32) : IVec S64x64x64 1 × IVec S3x1x3x3x3 1 :=
  let main_v18 : IVec S3x1x3x3x3 32 := broadcastInDim S3x1x3x3x3 ![] bcast_S_S3x1x3x3x3 main_c_3
  let main_v19 : IVec S3x1x3x3x3 1 := cmpi .eq main_v3 main_v18
  let main_v20 : IVec S3x1x3x3x3 32 := select main_v19 main_v5 main_v6
  let main_c_4 : IVec S_ 32 := constantI S_ 32 1#32
  let main_v21 : IVec S3x1x3x3x3 32 := broadcastInDim S3x1x3x3x3 ![] bcast_S_S3x1x3x3x3 main_c_4
  let main_v22 : IVec S3x1x3x3x3 1 := cmpi .eq main_v20 main_v21
  let main_v23 : IVec S3x1x3x3x3 1 := andi main_v17 main_v22
  let main_c_5 : IVec S_ 32 := constantI S_ 32 1#32
  let main_v24 : IVec S3x1x3x3x3 32 := broadcastInDim S3x1x3x3x3 ![] bcast_S_S3x1x3x3x3 main_c_5
  let main_v25 : IVec S3x1x3x3x3 32 := subi main_v12 main_v24
  let main_c_6 : IVec S_ 32 := constantI S_ 32 0#32
  let main_v26 : IVec S3x1x3x3x3 32 := broadcastInDim S3x1x3x3x3 ![] bcast_S_S3x1x3x3x3 main_c_6
  let main_v27 : IVec S3x1x3x3x3 32 := select main_v23 main_v25 main_v26
  let main_v28 : FVec F S3x1x3x3x3 .f32 := sitofp .f32 main_v27
  let main_v29 : IVec S3x1x3x3x3 1 := cmpf .oeq main_arg1 main_v28
  (main_v2, main_v29)

def fn {F : FTy → Type} [FloatOps F] (main_arg0 : FVec F S64x64x64 .f32) (main_arg1 : FVec F S3x1x3x3x3 .f32) : IVec S64x64x64 1 × IVec S3x1x3x3x3 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_v3 : IVec S3x1x3x3x3 32 := iotaInDim S3x1x3x3x3 32 0
  let main_v4 : IVec S3x1x3x3x3 32 := iotaInDim S3x1x3x3x3 32 2
  let main_v5 : IVec S3x1x3x3x3 32 := iotaInDim S3x1x3x3x3 32 3
  let main_v6 : IVec S3x1x3x3x3 32 := iotaInDim S3x1x3x3x3 32 4
  let main_c : IVec S_ 32 := constantI S_ 32 0#32
  let main_v7 : IVec S3x1x3x3x3 32 := broadcastInDim S3x1x3x3x3 ![] bcast_S_S3x1x3x3x3 main_c
  let main_v8 : IVec S3x1x3x3x3 1 := cmpi .eq main_v3 main_v7
  let main_c_0 : IVec S_ 32 := constantI S_ 32 1#32
  let main_v9 : IVec S3x1x3x3x3 32 := broadcastInDim S3x1x3x3x3 ![] bcast_S_S3x1x3x3x3 main_c_0
  let main_v10 : IVec S3x1x3x3x3 1 := cmpi .eq main_v3 main_v9
  let main_v11 : IVec S3x1x3x3x3 32 := select main_v10 main_v5 main_v6
  let main_v12 : IVec S3x1x3x3x3 32 := select main_v8 main_v4 main_v11
  let main_c_1 : IVec S_ 32 := constantI S_ 32 0#32
  let main_v13 : IVec S3x1x3x3x3 32 := broadcastInDim S3x1x3x3x3 ![] bcast_S_S3x1x3x3x3 main_c_1
  let main_v14 : IVec S3x1x3x3x3 1 := cmpi .eq main_v3 main_v13
  let main_v15 : IVec S3x1x3x3x3 32 := select main_v14 main_v5 main_v4
  let main_c_2 : IVec S_ 32 := constantI S_ 32 1#32
  let main_v16 : IVec S3x1x3x3x3 32 := broadcastInDim S3x1x3x3x3 ![] bcast_S_S3x1x3x3x3 main_c_2
  let main_v17 : IVec S3x1x3x3x3 1 := cmpi .eq main_v15 main_v16
  let main_c_3 : IVec S_ 32 := constantI S_ 32 2#32
  fn_part1 (F := F) main_arg1 main_v2 main_v3 main_v5 main_v6 main_v12 main_v17 main_c_3
-- ==== Kernel.lean ====
abbrev S64x64x64 : Shape := ⟨3, ![64, 64, 64]⟩
abbrev S3x1x3x3x3 : Shape := ⟨5, ![3, 1, 3, 3, 3]⟩
abbrev S_ : Shape := ⟨0, ![]⟩
abbrev S87x80x80 : Shape := ⟨3, ![87, 80, 80]⟩
abbrev S64x78x78x78 : Shape := ⟨4, ![64, 78, 78, 78]⟩
abbrev S64x1x78x78 : Shape := ⟨4, ![64, 1, 78, 78]⟩
abbrev S15x64x78x78 : Shape := ⟨4, ![15, 64, 78, 78]⟩
abbrev S64x78x78 : Shape := ⟨3, ![64, 78, 78]⟩
abbrev S3x80x80 : Shape := ⟨3, ![3, 80, 80]⟩
abbrev S1x78x78 : Shape := ⟨3, ![1, 78, 78]⟩
abbrev S78x78 : Shape := ⟨2, ![78, 78]⟩
abbrev S8x78x78 : Shape := ⟨3, ![8, 78, 78]⟩
abbrev S8x8x78 : Shape := ⟨3, ![8, 8, 78]⟩
abbrev S8x10x78 : Shape := ⟨3, ![8, 10, 78]⟩
abbrev S8x96x78 : Shape := ⟨3, ![8, 96, 78]⟩
abbrev S8x1x96x78 : Shape := ⟨4, ![8, 1, 96, 78]⟩
abbrev S1x8x96x78 : Shape := ⟨4, ![1, 8, 96, 78]⟩
abbrev S8x8x96x78 : Shape := ⟨4, ![8, 8, 96, 78]⟩
abbrev S64x96x78 : Shape := ⟨3, ![64, 96, 78]⟩
abbrev S6144x78 : Shape := ⟨2, ![6144, 78]⟩
abbrev S78x96 : Shape := ⟨2, ![78, 96]⟩
abbrev S1x96x78 : Shape := ⟨3, ![1, 96, 78]⟩
abbrev S96x78 : Shape := ⟨2, ![96, 78]⟩
abbrev S1x64x78x78 : Shape := ⟨4, ![1, 64, 78, 78]⟩

abbrev nBuf : Space → Nat
  | .hbm => 8
  | .vmem => 5
  | .smem => 0
  | _ => 0

abbrev bufTy : (tb : Table) → Fin (tcTables nBuf tb) → BufTy
  | .hbm, ⟨0, _⟩ => ⟨S64x64x64, .f32⟩
  | .hbm, ⟨1, _⟩ => ⟨S3x1x3x3x3, .f32⟩
  | .hbm, ⟨2, _⟩ => ⟨S64x64x64, .bf16⟩
  | .hbm, ⟨3, _⟩ => ⟨S64x64x64, .f32⟩
  | .hbm, ⟨4, _⟩ => ⟨S_, .i32⟩
  | .hbm, ⟨5, _⟩ => ⟨S_, .f32⟩
  | .hbm, ⟨6, _⟩ => ⟨S87x80x80, .f32⟩
  | .hbm, ⟨7, _⟩ => ⟨S64x78x78x78, .f32⟩
  | .local _ .vmem, ⟨0, _⟩ => ⟨S87x80x80, .f32⟩
  | .local _ .vmem, ⟨1, _⟩ => ⟨S64x1x78x78, .f32⟩
  | .local _ .vmem, ⟨2, _⟩ => ⟨S64x1x78x78, .f32⟩
  | .local _ .vmem, ⟨3, _⟩ => ⟨S15x64x78x78, .f32⟩
  | .local _ .vmem, ⟨4, _⟩ => ⟨S64x78x78, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_call0_v0 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![85], ![false]⟩

def k0_off1 (i : grid0.Coords) : Fin 3 → Nat :=
  let arg0 : BitVec 32 := BitVec.ofNat 32 (i 0).val
  let v3 : Index := Scalar.indexCast arg0
  let c0 : Index := 0#32
  let c0_1 : Index := 0#32
  ![v3.toNat, 0, 0]
def k0_off2 (i : grid0.Coords) : Fin 4 → Nat :=
  let arg0 : BitVec 32 := BitVec.ofNat 32 (i 0).val
  let c15_i32 : BitVec 32 := 15#32
  let v524 : BitVec 32 := Scalar.remsi arg0 c15_i32
  let v525 : Index := Scalar.indexCast v524
  let c0_128 : Index := 0#32
  let c0_129 : Index := 0#32
  let c0_130 : Index := 0#32
  ![v525.toNat, 0, 0, 0]
def k0_cond2 (i : grid0.Coords) : BitVec 1 :=
  let arg0 : BitVec 32 := BitVec.ofNat 32 (i 0).val
  let c7_i32_140 : BitVec 32 := 7#32
  let v538 : BitVec 1 := Scalar.cmpi .sge arg0 c7_i32_140
  let v539 : BitVec 32 := Scalar.extui v538
  let c0_i32_141 : BitVec 32 := 0#32
  let v540 : BitVec 1 := Scalar.cmpi .ne v539 c0_i32_141
  v540

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c7_i32 : BitVec 32 := 7#32
  let v0 : BitVec 1 := Scalar.cmpi .slt arg0 c7_i32
  let c7_i32_0 : BitVec 32 := 7#32
  let v1 : BitVec 32 := Scalar.subi arg0 c7_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  let c0_i32_4 : BitVec 32 := 0#32
  ![c0_i32_1.toNat, v2.toNat, c0_i32_2.toNat, c0_i32_3.toNat]

abbrev stage0_0 : Fin 1 → Memref sig .tc .vmem S87x80x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1x78x78 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "bins_per_radian" => some ((33554432 / 13176795 : ℝ) : EReal)
  | _ => none
-- ==== ReferenceIdeal.lean ====
abbrev S64x64x64 : Shape := ⟨3, ![64, 64, 64]⟩
abbrev S3x1x3x3x3 : Shape := ⟨5, ![3, 1, 3, 3, 3]⟩
abbrev S_ : Shape := ⟨0, ![]⟩
abbrev S80x80x80 : Shape := ⟨3, ![80, 80, 80]⟩
abbrev S3x78x78x78 : Shape := ⟨4, ![3, 78, 78, 78]⟩
abbrev S3x1x1x1x1 : Shape := ⟨5, ![3, 1, 1, 1, 1]⟩
abbrev S3 : Shape := ⟨1, ![3]⟩
abbrev S3x1x1x1 : Shape := ⟨4, ![3, 1, 1, 1]⟩
abbrev S78x78x78 : Shape := ⟨3, ![78, 78, 78]⟩
abbrev S1x78x78x78 : Shape := ⟨4, ![1, 78, 78, 78]⟩
abbrev S474552 : Shape := ⟨1, ![474552]⟩
abbrev S64x474552 : Shape := ⟨2, ![64, 474552]⟩
abbrev S474552x1 : Shape := ⟨2, ![474552, 1]⟩
abbrev S474552x2 : Shape := ⟨2, ![474552, 2]⟩
abbrev S64x78x78x78 : Shape := ⟨4, ![64, 78, 78, 78]⟩

abbrev nBuf : Space → Nat
  | .hbm => 865
  | .vmem => 0
  | .smem => 0
  | _ => 0

abbrev hbmTy0_0 (i : Nat) : BufTy := match i % 128 with
  | 0 => ⟨S64x64x64, .f32⟩
  | 1 => ⟨S3x1x3x3x3, .f32⟩
  | 2 => ⟨S_, .i32⟩
  | 3 => ⟨S_, .f32⟩
  | 4 => ⟨S80x80x80, .f32⟩
  | 5 => ⟨S_, .f32⟩
  | 6 => ⟨S3x78x78x78, .f32⟩
  | 7 => ⟨S3x1x1x1x1, .f32⟩
  | 8 => ⟨S3, .f32⟩
  | 9 => ⟨S3x1x1x1, .f32⟩
  | 10 => ⟨S78x78x78, .f32⟩
  | 11 => ⟨S1x78x78x78, .f32⟩
  | 12 => ⟨S3x78x78x78, .f32⟩
  | 13 => ⟨S3x78x78x78, .f32⟩
  | 14 => ⟨S3x78x78x78, .f32⟩
  | 15 => ⟨S3x78x78x78, .f32⟩
  | 16 => ⟨S3x1x1x1x1, .f32⟩
  | 17 => ⟨S3, .f32⟩
  | 18 => ⟨S3x1x1x1, .f32⟩
  | 19 => ⟨S78x78x78, .f32⟩
  | 20 => ⟨S1x78x78x78, .f32⟩
  | 21 => ⟨S3x78x78x78, .f32⟩
  | 22 => ⟨S3x78x78x78, .f32⟩
  | 23 => ⟨S3x78x78x78, .f32⟩
  | 24 => ⟨S3x78x78x78, .f32⟩
  | 25 => ⟨S3x1x1x1x1, .f32⟩
  | 26 => ⟨S3, .f32⟩
  | 27 => ⟨S3x1x1x1, .f32⟩
  | 28 => ⟨S78x78x78, .f32⟩
  | 29 => ⟨S1x78x78x78, .f32⟩
  | 30 => ⟨S3x78x78x78, .f32⟩
  | 31 => ⟨S3x78x78x78, .f32⟩
  | 32 => ⟨S3x78x78x78, .f32⟩
  | 33 => ⟨S3x78x78x78, .f32⟩
  | 34 => ⟨S3x1x1x1x1, .f32⟩
  | 35 => ⟨S3, .f32⟩
  | 36 => ⟨S3x1x1x1, .f32⟩
  | 37 => ⟨S78x78x78, .f32⟩
  | 38 => ⟨S1x78x78x78, .f32⟩
  | 39 => ⟨S3x78x78x78, .f32⟩
  | 40 => ⟨S3x78x78x78, .f32⟩
  | 41 => ⟨S3x78x78x78, .f32⟩
  | 42 => ⟨S3x78x78x78, .f32⟩
  | 43 => ⟨S3x1x1x1x1, .f32⟩
  | 44 => ⟨S3, .f32⟩
  | 45 => ⟨S3x1x1x1, .f32⟩
  | 46 => ⟨S78x78x78, .f32⟩
  | 47 => ⟨S1x78x78x78, .f32⟩
  | 48 => ⟨S3x78x78x78, .f32⟩
  | 49 => ⟨S3x78x78x78, .f32⟩
  | 50 => ⟨S3x78x78x78, .f32⟩
  | 51 => ⟨S3x78x78x78, .f32⟩
  | 52 => ⟨S3x1x1x1x1, .f32⟩
  | 53 => ⟨S3, .f32⟩
  | 54 => ⟨S3x1x1x1, .f32⟩
  | 55 => ⟨S78x78x78, .f32⟩
  | 56 => ⟨S1x78x78x78, .f32⟩
  | 57 => ⟨S3x78x78x78, .f32⟩
  | 58 => ⟨S3x78x78x78, .f32⟩
  | 59 => ⟨S3x78x78x78, .f32⟩
  | 60 => ⟨S3x78x78x78, .f32⟩
  | 61 => ⟨S3x1x1x1x1, .f32⟩
  | 62 => ⟨S3, .f32⟩
  | 63 => ⟨S3x1x1x1, .f32⟩
  | 64 => ⟨S78x78x78, .f32⟩
  | 65 => ⟨S1x78x78x78, .f32⟩
  | 66 => ⟨S3x78x78x78, .f32⟩
  | 67 => ⟨S3x78x78x78, .f32⟩
  | 68 => ⟨S3x78x78x78, .f32⟩
  | 69 => ⟨S3x78x78x78, .f32⟩
  | 70 => ⟨S3x1x1x1x1, .f32⟩
  | 71 => ⟨S3, .f32⟩
  | 72 => ⟨S3x1x1x1, .f32⟩
  | 73 => ⟨S78x78x78, .f32⟩
  | 74 => ⟨S1x78x78x78, .f32⟩
  | 75 => ⟨S3x78x78x78, .f32⟩
  | 76 => ⟨S3x78x78x78, .f32⟩
  | 77 => ⟨S3x78x78x78, .f32⟩
  | 78 => ⟨S3x78x78x78, .f32⟩
  | 79 => ⟨S3x1x1x1x1, .f32⟩
  | 80 => ⟨S3, .f32⟩
  | 81 => ⟨S3x1x1x1, .f32⟩
  | 82 => ⟨S78x78x78, .f32⟩
  | 83 => ⟨S1x78x78x78, .f32⟩
  | 84 => ⟨S3x78x78x78, .f32⟩
  | 85 => ⟨S3x78x78x78, .f32⟩
  | 86 => ⟨S3x78x78x78, .f32⟩
  | 87 => ⟨S3x78x78x78, .f32⟩
  | 88 => ⟨S3x1x1x1x1, .f32⟩
  | 89 => ⟨S3, .f32⟩
  | 90 => ⟨S3x1x1x1, .f32⟩
  | 91 => ⟨S78x78x78, .f32⟩
  | 92 => ⟨S1x78x78x78, .f32⟩
  | 93 => ⟨S3x78x78x78, .f32⟩
  | 94 => ⟨S3x78x78x78, .f32⟩
  | 95 => ⟨S3x78x78x78, .f32⟩
  | 96 => ⟨S3x78x78x78, .f32⟩
  | 97 => ⟨S3x1x1x1x1, .f32⟩
  | 98 => ⟨S3, .f32⟩
  | 99 => ⟨S3x1x1x1, .f32⟩
  | 100 => ⟨S78x78x78, .f32⟩
  | 101 => ⟨S1x78x78x78, .f32⟩
  | 102 => ⟨S3x78x78x78, .f32⟩
  | 103 => ⟨S3x78x78x78, .f32⟩
  | 104 => ⟨S3x78x78x78, .f32⟩
  | 105 => ⟨S3x78x78x78, .f32⟩
  | 106 => ⟨S3x1x1x1x1, .f32⟩
  | 107 => ⟨S3, .f32⟩
  | 108 => ⟨S3x1x1x1, .f32⟩
  | 109 => ⟨S78x78x78, .f32⟩
  | 110 => ⟨S1x78x78x78, .f32⟩
  | 111 => ⟨S3x78x78x78, .f32⟩
  | 112 => ⟨S3x78x78x78, .f32⟩
  | 113 => ⟨S3x78x78x78, .f32⟩
  | 114 => ⟨S3x78x78x78, .f32⟩
  | 115 => ⟨S3x1x1x1x1, .f32⟩
  | 116 => ⟨S3, .f32⟩
  | 117 => ⟨S3x1x1x1, .f32⟩
  | 118 => ⟨S78x78x78, .f32⟩
  | 119 => ⟨S1x78x78x78, .f32⟩
  | 120 => ⟨S3x78x78x78, .f32⟩
  | 121 => ⟨S3x78x78x78, .f32⟩
  | 122 => ⟨S3x78x78x78, .f32⟩
  | 123 => ⟨S3x78x78x78, .f32⟩
  | 124 => ⟨S3x1x1x1x1, .f32⟩
  | 125 => ⟨S3, .f32⟩
  | 126 => ⟨S3x1x1x1, .f32⟩
  | 127 => ⟨S78x78x78, .f32⟩
  | _ => ⟨S64x64x64, .f32⟩

abbrev hbmTy0_1 (i : Nat) : BufTy := match i % 128 with
  | 0 => ⟨S1x78x78x78, .f32⟩
  | 1 => ⟨S3x78x78x78, .f32⟩
  | 2 => ⟨S3x78x78x78, .f32⟩
  | 3 => ⟨S3x78x78x78, .f32⟩
  | 4 => ⟨S3x78x78x78, .f32⟩
  | 5 => ⟨S3x1x1x1x1, .f32⟩
  | 6 => ⟨S3, .f32⟩
  | 7 => ⟨S3x1x1x1, .f32⟩
  | 8 => ⟨S78x78x78, .f32⟩
  | 9 => ⟨S1x78x78x78, .f32⟩
  | 10 => ⟨S3x78x78x78, .f32⟩
  | 11 => ⟨S3x78x78x78, .f32⟩
  | 12 => ⟨S3x78x78x78, .f32⟩
  | 13 => ⟨S3x78x78x78, .f32⟩
  | 14 => ⟨S3x1x1x1x1, .f32⟩
  | 15 => ⟨S3, .f32⟩
  | 16 => ⟨S3x1x1x1, .f32⟩
  | 17 => ⟨S78x78x78, .f32⟩
  | 18 => ⟨S1x78x78x78, .f32⟩
  | 19 => ⟨S3x78x78x78, .f32⟩
  | 20 => ⟨S3x78x78x78, .f32⟩
  | 21 => ⟨S3x78x78x78, .f32⟩
  | 22 => ⟨S3x78x78x78, .f32⟩
  | 23 => ⟨S3x1x1x1x1, .f32⟩
  | 24 => ⟨S3, .f32⟩
  | 25 => ⟨S3x1x1x1, .f32⟩
  | 26 => ⟨S78x78x78, .f32⟩
  | 27 => ⟨S1x78x78x78, .f32⟩
  | 28 => ⟨S3x78x78x78, .f32⟩
  | 29 => ⟨S3x78x78x78, .f32⟩
  | 30 => ⟨S3x78x78x78, .f32⟩
  | 31 => ⟨S3x78x78x78, .f32⟩
  | 32 => ⟨S3x1x1x1x1, .f32⟩
  | 33 => ⟨S3, .f32⟩
  | 34 => ⟨S3x1x1x1, .f32⟩
  | 35 => ⟨S78x78x78, .f32⟩
  | 36 => ⟨S1x78x78x78, .f32⟩
  | 37 => ⟨S3x78x78x78, .f32⟩
  | 38 => ⟨S3x78x78x78, .f32⟩
  | 39 => ⟨S3x78x78x78, .f32⟩
  | 40 => ⟨S3x78x78x78, .f32⟩
  | 41 => ⟨S3x1x1x1x1, .f32⟩
  | 42 => ⟨S3, .f32⟩
  | 43 => ⟨S3x1x1x1, .f32⟩
  | 44 => ⟨S78x78x78, .f32⟩
  | 45 => ⟨S1x78x78x78, .f32⟩
  | 46 => ⟨S3x78x78x78, .f32⟩
  | 47 => ⟨S3x78x78x78, .f32⟩
  | 48 => ⟨S3x78x78x78, .f32⟩
  | 49 => ⟨S3x78x78x78, .f32⟩
  | 50 => ⟨S3x1x1x1x1, .f32⟩
  | 51 => ⟨S3, .f32⟩
  | 52 => ⟨S3x1x1x1, .f32⟩
  | 53 => ⟨S78x78x78, .f32⟩
  | 54 => ⟨S1x78x78x78, .f32⟩
  | 55 => ⟨S3x78x78x78, .f32⟩
  | 56 => ⟨S3x78x78x78, .f32⟩
  | 57 => ⟨S3x78x78x78, .f32⟩
  | 58 => ⟨S3x78x78x78, .f32⟩
  | 59 => ⟨S3x1x1x1x1, .f32⟩
  | 60 => ⟨S3, .f32⟩
  | 61 => ⟨S3x1x1x1, .f32⟩
  | 62 => ⟨S78x78x78, .f32⟩
  | 63 => ⟨S1x78x78x78, .f32⟩
  | 64 => ⟨S3x78x78x78, .f32⟩
  | 65 => ⟨S3x78x78x78, .f32⟩
  | 66 => ⟨S3x78x78x78, .f32⟩
  | 67 => ⟨S3x78x78x78, .f32⟩
  | 68 => ⟨S3x1x1x1x1, .f32⟩
  | 69 => ⟨S3, .f32⟩
  | 70 => ⟨S3x1x1x1, .f32⟩
  | 71 => ⟨S78x78x78, .f32⟩
  | 72 => ⟨S1x78x78x78, .f32⟩
  | 73 => ⟨S3x78x78x78, .f32⟩
  | 74 => ⟨S3x78x78x78, .f32⟩
  | 75 => ⟨S3x78x78x78, .f32⟩
  | 76 => ⟨S3x78x78x78, .f32⟩
  | 77 => ⟨S3x1x1x1x1, .f32⟩
  | 78 => ⟨S3, .f32⟩
  | 79 => ⟨S3x1x1x1, .f32⟩
  | 80 => ⟨S78x78x78, .f32⟩
  | 81 => ⟨S1x78x78x78, .f32⟩
  | 82 => ⟨S3x78x78x78, .f32⟩
  | 83 => ⟨S3x78x78x78, .f32⟩
  | 84 => ⟨S3x78x78x78, .f32⟩
  | 85 => ⟨S3x78x78x78, .f32⟩
  | 86 => ⟨S3x1x1x1x1, .f32⟩
  | 87 => ⟨S3, .f32⟩
  | 88 => ⟨S3x1x1x1, .f32⟩
  | 89 => ⟨S78x78x78, .f32⟩
  | 90 => ⟨S1x78x78x78, .f32⟩
  | 91 => ⟨S3x78x78x78, .f32⟩
  | 92 => ⟨S3x78x78x78, .f32⟩
  | 93 => ⟨S3x78x78x78, .f32⟩
  | 94 => ⟨S3x78x78x78, .f32⟩
  | 95 => ⟨S3x1x1x1x1, .f32⟩
  | 96 => ⟨S3, .f32⟩
  | 97 => ⟨S3x1x1x1, .f32⟩
  | 98 => ⟨S78x78x78, .f32⟩
  | 99 => ⟨S1x78x78x78, .f32⟩
  | 100 => ⟨S3x78x78x78, .f32⟩
  | 101 => ⟨S3x78x78x78, .f32⟩
  | 102 => ⟨S3x78x78x78, .f32⟩
  | 103 => ⟨S3x78x78x78, .f32⟩
  | 104 => ⟨S3x1x1x1x1, .f32⟩
  | 105 => ⟨S3, .f32⟩
  | 106 => ⟨S3x1x1x1, .f32⟩
  | 107 => ⟨S78x78x78, .f32⟩
  | 108 => ⟨S1x78x78x78, .f32⟩
  | 109 => ⟨S3x78x78x78, .f32⟩
  | 110 => ⟨S3x78x78x78, .f32⟩
  | 111 => ⟨S3x78x78x78, .f32⟩
  | 112 => ⟨S3x78x78x78, .f32⟩
  | 113 => ⟨S3x1x1x1x1, .f32⟩
  | 114 => ⟨S3, .f32⟩
  | 115 => ⟨S3x1x1x1, .f32⟩
  | 116 => ⟨S78x78x78, .f32⟩
  | 117 => ⟨S1x78x78x78, .f32⟩
  | 118 => ⟨S3x78x78x78, .f32⟩
  | 119 => ⟨S3x78x78x78, .f32⟩
  | 120 => ⟨S3x78x78x78, .f32⟩
  | 121 => ⟨S3x78x78x78, .f32⟩
  | 122 => ⟨S3x78x78x78, .f32⟩
  | 123 => ⟨S_, .f32⟩
  | 124 => ⟨S78x78x78, .f32⟩
  | 125 => ⟨S_, .f32⟩
  | 126 => ⟨S78x78x78, .f32⟩
  | 127 => ⟨S78x78x78, .i1⟩
  | _ => ⟨S64x64x64, .f32⟩

abbrev hbmTy0_2 (i : Nat) : BufTy := match i % 128 with
  | 0 => ⟨S_, .f32⟩
  | 1 => ⟨S_, .f32⟩
  | 2 => ⟨S78x78x78, .f32⟩
  | 3 => ⟨S78x78x78, .f32⟩
  | 4 => ⟨S78x78x78, .f32⟩
  | 5 => ⟨S_, .f32⟩
  | 6 => ⟨S_, .f32⟩
  | 7 => ⟨S78x78x78, .f32⟩
  | 8 => ⟨S78x78x78, .f32⟩
  | 9 => ⟨S1x78x78x78, .f32⟩
  | 10 => ⟨S78x78x78, .f32⟩
  | 11 => ⟨S_, .f32⟩
  | 12 => ⟨S_, .f32⟩
  | 13 => ⟨S78x78x78, .f32⟩
  | 14 => ⟨S78x78x78, .f32⟩
  | 15 => ⟨S1x78x78x78, .f32⟩
  | 16 => ⟨S78x78x78, .f32⟩
  | 17 => ⟨S_, .f32⟩
  | 18 => ⟨S_, .f32⟩
  | 19 => ⟨S78x78x78, .f32⟩
  | 20 => ⟨S78x78x78, .f32⟩
  | 21 => ⟨S78x78x78, .f32⟩
  | 22 => ⟨S78x78x78, .f32⟩
  | 23 => ⟨S78x78x78, .i1⟩
  | 24 => ⟨S_, .f32⟩
  | 25 => ⟨S78x78x78, .f32⟩
  | 26 => ⟨S78x78x78, .i1⟩
  | 27 => ⟨S_, .f32⟩
  | 28 => ⟨S_, .f32⟩
  | 29 => ⟨S78x78x78, .f32⟩
  | 30 => ⟨S78x78x78, .f32⟩
  | 31 => ⟨S78x78x78, .f32⟩
  | 32 => ⟨S_, .f32⟩
  | 33 => ⟨S78x78x78, .f32⟩
  | 34 => ⟨S78x78x78, .f32⟩
  | 35 => ⟨S78x78x78, .f32⟩
  | 36 => ⟨S78x78x78, .f32⟩
  | 37 => ⟨S_, .f32⟩
  | 38 => ⟨S78x78x78, .f32⟩
  | 39 => ⟨S78x78x78, .f32⟩
  | 40 => ⟨S78x78x78, .f32⟩
  | 41 => ⟨S78x78x78, .f32⟩
  | 42 => ⟨S78x78x78, .f32⟩
  | 43 => ⟨S_, .f32⟩
  | 44 => ⟨S78x78x78, .f32⟩
  | 45 => ⟨S78x78x78, .f32⟩
  | 46 => ⟨S78x78x78, .f32⟩
  | 47 => ⟨S78x78x78, .f32⟩
  | 48 => ⟨S78x78x78, .f32⟩
  | 49 => ⟨S_, .f32⟩
  | 50 => ⟨S78x78x78, .f32⟩
  | 51 => ⟨S78x78x78, .f32⟩
  | 52 => ⟨S78x78x78, .f32⟩
  | 53 => ⟨S78x78x78, .f32⟩
  | 54 => ⟨S78x78x78, .f32⟩
  | 55 => ⟨S_, .f32⟩
  | 56 => ⟨S78x78x78, .f32⟩
  | 57 => ⟨S78x78x78, .f32⟩
  | 58 => ⟨S78x78x78, .f32⟩
  | 59 => ⟨S78x78x78, .f32⟩
  | 60 => ⟨S78x78x78, .f32⟩
  | 61 => ⟨S_, .f32⟩
  | 62 => ⟨S78x78x78, .f32⟩
  | 63 => ⟨S78x78x78, .f32⟩
  | 64 => ⟨S78x78x78, .f32⟩
  | 65 => ⟨S78x78x78, .f32⟩
  | 66 => ⟨S78x78x78, .f32⟩
  | 67 => ⟨S_, .f32⟩
  | 68 => ⟨S78x78x78, .f32⟩
  | 69 => ⟨S78x78x78, .f32⟩
  | 70 => ⟨S78x78x78, .f32⟩
  | 71 => ⟨S78x78x78, .f32⟩
  | 72 => ⟨S78x78x78, .f32⟩
  | 73 => ⟨S_, .f32⟩
  | 74 => ⟨S78x78x78, .f32⟩
  | 75 => ⟨S78x78x78, .f32⟩
  | 76 => ⟨S78x78x78, .f32⟩
  | 77 => ⟨S78x78x78, .f32⟩
  | 78 => ⟨S78x78x78, .f32⟩
  | 79 => ⟨S_, .f32⟩
  | 80 => ⟨S78x78x78, .f32⟩
  | 81 => ⟨S78x78x78, .f32⟩
  | 82 => ⟨S78x78x78, .f32⟩
  | 83 => ⟨S78x78x78, .f32⟩
  | 84 => ⟨S78x78x78, .f32⟩
  | 85 => ⟨S_, .f32⟩
  | 86 => ⟨S78x78x78, .f32⟩
  | 87 => ⟨S78x78x78, .f32⟩
  | 88 => ⟨S78x78x78, .f32⟩
  | 89 => ⟨S_, .f32⟩
  | 90 => ⟨S78x78x78, .f32⟩
  | 91 => ⟨S78x78x78, .i1⟩
  | 92 => ⟨S_, .f32⟩
  | 93 => ⟨S_, .f32⟩
  | 94 => ⟨S78x78x78, .f32⟩
  | 95 => ⟨S78x78x78, .f32⟩
  | 96 => ⟨S78x78x78, .f32⟩
  | 97 => ⟨S_, .f32⟩
  | 98 => ⟨S78x78x78, .f32⟩
  | 99 => ⟨S78x78x78, .f32⟩
  | 100 => ⟨S78x78x78, .f32⟩
  | 101 => ⟨S78x78x78, .f32⟩
  | 102 => ⟨S_, .f32⟩
  | 103 => ⟨S78x78x78, .f32⟩
  | 104 => ⟨S78x78x78, .f32⟩
  | 105 => ⟨S78x78x78, .f32⟩
  | 106 => ⟨S78x78x78, .f32⟩
  | 107 => ⟨S78x78x78, .f32⟩
  | 108 => ⟨S_, .f32⟩
  | 109 => ⟨S78x78x78, .f32⟩
  | 110 => ⟨S78x78x78, .f32⟩
  | 111 => ⟨S78x78x78, .f32⟩
  | 112 => ⟨S78x78x78, .f32⟩
  | 113 => ⟨S78x78x78, .f32⟩
  | 114 => ⟨S_, .f32⟩
  | 115 => ⟨S78x78x78, .f32⟩
  | 116 => ⟨S78x78x78, .f32⟩
  | 117 => ⟨S78x78x78, .f32⟩
  | 118 => ⟨S78x78x78, .f32⟩
  | 119 => ⟨S78x78x78, .f32⟩
  | 120 => ⟨S_, .f32⟩
  | 121 => ⟨S78x78x78, .f32⟩
  | 122 => ⟨S78x78x78, .f32⟩
  | 123 => ⟨S78x78x78, .f32⟩
  | 124 => ⟨S78x78x78, .f32⟩
  | 125 => ⟨S78x78x78, .f32⟩
  | 126 => ⟨S_, .f32⟩
  | 127 => ⟨S78x78x78, .f32⟩
  | _ => ⟨S64x64x64, .f32⟩

abbrev hbmTy0_3 (i : Nat) : BufTy := match i % 128 with
  | 0 => ⟨S78x78x78, .f32⟩
  | 1 => ⟨S78x78x78, .f32⟩
  | 2 => ⟨S78x78x78, .f32⟩
  | 3 => ⟨S78x78x78, .f32⟩
  | 4 => ⟨S_, .f32⟩
  | 5 => ⟨S78x78x78, .f32⟩
  | 6 => ⟨S78x78x78, .f32⟩
  | 7 => ⟨S78x78x78, .f32⟩
  | 8 => ⟨S78x78x78, .f32⟩
  | 9 => ⟨S78x78x78, .f32⟩
  | 10 => ⟨S_, .f32⟩
  | 11 => ⟨S78x78x78, .f32⟩
  | 12 => ⟨S78x78x78, .f32⟩
  | 13 => ⟨S78x78x78, .f32⟩
  | 14 => ⟨S78x78x78, .f32⟩
  | 15 => ⟨S78x78x78, .f32⟩
  | 16 => ⟨S_, .f32⟩
  | 17 => ⟨S78x78x78, .f32⟩
  | 18 => ⟨S78x78x78, .f32⟩
  | 19 => ⟨S78x78x78, .f32⟩
  | 20 => ⟨S78x78x78, .f32⟩
  | 21 => ⟨S78x78x78, .f32⟩
  | 22 => ⟨S_, .f32⟩
  | 23 => ⟨S78x78x78, .f32⟩
  | 24 => ⟨S78x78x78, .f32⟩
  | 25 => ⟨S78x78x78, .f32⟩
  | 26 => ⟨S_, .f32⟩
  | 27 => ⟨S78x78x78, .f32⟩
  | 28 => ⟨S78x78x78, .f32⟩
  | 29 => ⟨S78x78x78, .f32⟩
  | 30 => ⟨S_, .f32⟩
  | 31 => ⟨S78x78x78, .f32⟩
  | 32 => ⟨S78x78x78, .i1⟩
  | 33 => ⟨S_, .f32⟩
  | 34 => ⟨S78x78x78, .f32⟩
  | 35 => ⟨S78x78x78, .f32⟩
  | 36 => ⟨S78x78x78, .f32⟩
  | 37 => ⟨S_, .f32⟩
  | 38 => ⟨S78x78x78, .f32⟩
  | 39 => ⟨S78x78x78, .i1⟩
  | 40 => ⟨S78x78x78, .f32⟩
  | 41 => ⟨S78x78x78, .f32⟩
  | 42 => ⟨S_, .f32⟩
  | 43 => ⟨S_, .f32⟩
  | 44 => ⟨S78x78x78, .f32⟩
  | 45 => ⟨S78x78x78, .f32⟩
  | 46 => ⟨S1x78x78x78, .f32⟩
  | 47 => ⟨S78x78x78, .f32⟩
  | 48 => ⟨S_, .f32⟩
  | 49 => ⟨S78x78x78, .f32⟩
  | 50 => ⟨S78x78x78, .f32⟩
  | 51 => ⟨S78x78x78, .f32⟩
  | 52 => ⟨S_, .f32⟩
  | 53 => ⟨S_, .f32⟩
  | 54 => ⟨S_, .f32⟩
  | 55 => ⟨S78x78x78, .f32⟩
  | 56 => ⟨S78x78x78, .f32⟩
  | 57 => ⟨S_, .f32⟩
  | 58 => ⟨S78x78x78, .f32⟩
  | 59 => ⟨S78x78x78, .f32⟩
  | 60 => ⟨S78x78x78, .f32⟩
  | 61 => ⟨S_, .f32⟩
  | 62 => ⟨S78x78x78, .f32⟩
  | 63 => ⟨S78x78x78, .f32⟩
  | 64 => ⟨S78x78x78, .f32⟩
  | 65 => ⟨S78x78x78, .f32⟩
  | 66 => ⟨S78x78x78, .f32⟩
  | 67 => ⟨S78x78x78, .i1⟩
  | 68 => ⟨S_, .f32⟩
  | 69 => ⟨S78x78x78, .f32⟩
  | 70 => ⟨S78x78x78, .i1⟩
  | 71 => ⟨S_, .f32⟩
  | 72 => ⟨S_, .f32⟩
  | 73 => ⟨S78x78x78, .f32⟩
  | 74 => ⟨S78x78x78, .f32⟩
  | 75 => ⟨S78x78x78, .f32⟩
  | 76 => ⟨S_, .f32⟩
  | 77 => ⟨S78x78x78, .f32⟩
  | 78 => ⟨S78x78x78, .f32⟩
  | 79 => ⟨S78x78x78, .f32⟩
  | 80 => ⟨S78x78x78, .f32⟩
  | 81 => ⟨S_, .f32⟩
  | 82 => ⟨S78x78x78, .f32⟩
  | 83 => ⟨S78x78x78, .f32⟩
  | 84 => ⟨S78x78x78, .f32⟩
  | 85 => ⟨S78x78x78, .f32⟩
  | 86 => ⟨S78x78x78, .f32⟩
  | 87 => ⟨S_, .f32⟩
  | 88 => ⟨S78x78x78, .f32⟩
  | 89 => ⟨S78x78x78, .f32⟩
  | 90 => ⟨S78x78x78, .f32⟩
  | 91 => ⟨S78x78x78, .f32⟩
  | 92 => ⟨S78x78x78, .f32⟩
  | 93 => ⟨S_, .f32⟩
  | 94 => ⟨S78x78x78, .f32⟩
  | 95 => ⟨S78x78x78, .f32⟩
  | 96 => ⟨S78x78x78, .f32⟩
  | 97 => ⟨S78x78x78, .f32⟩
  | 98 => ⟨S78x78x78, .f32⟩
  | 99 => ⟨S_, .f32⟩
  | 100 => ⟨S78x78x78, .f32⟩
  | 101 => ⟨S78x78x78, .f32⟩
  | 102 => ⟨S78x78x78, .f32⟩
  | 103 => ⟨S78x78x78, .f32⟩
  | 104 => ⟨S78x78x78, .f32⟩
  | 105 => ⟨S_, .f32⟩
  | 106 => ⟨S78x78x78, .f32⟩
  | 107 => ⟨S78x78x78, .f32⟩
  | 108 => ⟨S78x78x78, .f32⟩
  | 109 => ⟨S78x78x78, .f32⟩
  | 110 => ⟨S78x78x78, .f32⟩
  | 111 => ⟨S_, .f32⟩
  | 112 => ⟨S78x78x78, .f32⟩
  | 113 => ⟨S78x78x78, .f32⟩
  | 114 => ⟨S78x78x78, .f32⟩
  | 115 => ⟨S78x78x78, .f32⟩
  | 116 => ⟨S78x78x78, .f32⟩
  | 117 => ⟨S_, .f32⟩
  | 118 => ⟨S78x78x78, .f32⟩
  | 119 => ⟨S78x78x78, .f32⟩
  | 120 => ⟨S78x78x78, .f32⟩
  | 121 => ⟨S78x78x78, .f32⟩
  | 122 => ⟨S78x78x78, .f32⟩
  | 123 => ⟨S_, .f32⟩
  | 124 => ⟨S78x78x78, .f32⟩
  | 125 => ⟨S78x78x78, .f32⟩
  | 126 => ⟨S78x78x78, .f32⟩
  | 127 => ⟨S78x78x78, .f32⟩
  | _ => ⟨S64x64x64, .f32⟩

abbrev hbmTy0_4 (i : Nat) : BufTy := match i % 128 with
  | 0 => ⟨S78x78x78, .f32⟩
  | 1 => ⟨S_, .f32⟩
  | 2 => ⟨S78x78x78, .f32⟩
  | 3 => ⟨S78x78x78, .f32⟩
  | 4 => ⟨S78x78x78, .f32⟩
  | 5 => ⟨S_, .f32⟩
  | 6 => ⟨S78x78x78, .f32⟩
  | 7 => ⟨S78x78x78, .i1⟩
  | 8 => ⟨S_, .f32⟩
  | 9 => ⟨S_, .f32⟩
  | 10 => ⟨S78x78x78, .f32⟩
  | 11 => ⟨S78x78x78, .f32⟩
  | 12 => ⟨S78x78x78, .f32⟩
  | 13 => ⟨S_, .f32⟩
  | 14 => ⟨S78x78x78, .f32⟩
  | 15 => ⟨S78x78x78, .f32⟩
  | 16 => ⟨S78x78x78, .f32⟩
  | 17 => ⟨S78x78x78, .f32⟩
  | 18 => ⟨S_, .f32⟩
  | 19 => ⟨S78x78x78, .f32⟩
  | 20 => ⟨S78x78x78, .f32⟩
  | 21 => ⟨S78x78x78, .f32⟩
  | 22 => ⟨S78x78x78, .f32⟩
  | 23 => ⟨S78x78x78, .f32⟩
  | 24 => ⟨S_, .f32⟩
  | 25 => ⟨S78x78x78, .f32⟩
  | 26 => ⟨S78x78x78, .f32⟩
  | 27 => ⟨S78x78x78, .f32⟩
  | 28 => ⟨S78x78x78, .f32⟩
  | 29 => ⟨S78x78x78, .f32⟩
  | 30 => ⟨S_, .f32⟩
  | 31 => ⟨S78x78x78, .f32⟩
  | 32 => ⟨S78x78x78, .f32⟩
  | 33 => ⟨S78x78x78, .f32⟩
  | 34 => ⟨S78x78x78, .f32⟩
  | 35 => ⟨S78x78x78, .f32⟩
  | 36 => ⟨S_, .f32⟩
  | 37 => ⟨S78x78x78, .f32⟩
  | 38 => ⟨S78x78x78, .f32⟩
  | 39 => ⟨S78x78x78, .f32⟩
  | 40 => ⟨S78x78x78, .f32⟩
  | 41 => ⟨S78x78x78, .f32⟩
  | 42 => ⟨S_, .f32⟩
  | 43 => ⟨S78x78x78, .f32⟩
  | 44 => ⟨S78x78x78, .f32⟩
  | 45 => ⟨S78x78x78, .f32⟩
  | 46 => ⟨S78x78x78, .f32⟩
  | 47 => ⟨S78x78x78, .f32⟩
  | 48 => ⟨S_, .f32⟩
  | 49 => ⟨S78x78x78, .f32⟩
  | 50 => ⟨S78x78x78, .f32⟩
  | 51 => ⟨S78x78x78, .f32⟩
  | 52 => ⟨S78x78x78, .f32⟩
  | 53 => ⟨S78x78x78, .f32⟩
  | 54 => ⟨S_, .f32⟩
  | 55 => ⟨S78x78x78, .f32⟩
  | 56 => ⟨S78x78x78, .f32⟩
  | 57 => ⟨S78x78x78, .f32⟩
  | 58 => ⟨S78x78x78, .f32⟩
  | 59 => ⟨S78x78x78, .f32⟩
  | 60 => ⟨S_, .f32⟩
  | 61 => ⟨S78x78x78, .f32⟩
  | 62 => ⟨S78x78x78, .f32⟩
  | 63 => ⟨S78x78x78, .f32⟩
  | 64 => ⟨S78x78x78, .f32⟩
  | 65 => ⟨S78x78x78, .f32⟩
  | 66 => ⟨S_, .f32⟩
  | 67 => ⟨S78x78x78, .f32⟩
  | 68 => ⟨S78x78x78, .f32⟩
  | 69 => ⟨S78x78x78, .f32⟩
  | 70 => ⟨S_, .f32⟩
  | 71 => ⟨S78x78x78, .f32⟩
  | 72 => ⟨S78x78x78, .f32⟩
  | 73 => ⟨S78x78x78, .f32⟩
  | 74 => ⟨S_, .f32⟩
  | 75 => ⟨S78x78x78, .f32⟩
  | 76 => ⟨S78x78x78, .i1⟩
  | 77 => ⟨S_, .f32⟩
  | 78 => ⟨S78x78x78, .f32⟩
  | 79 => ⟨S78x78x78, .f32⟩
  | 80 => ⟨S78x78x78, .f32⟩
  | 81 => ⟨S_, .f32⟩
  | 82 => ⟨S78x78x78, .f32⟩
  | 83 => ⟨S78x78x78, .i1⟩
  | 84 => ⟨S78x78x78, .f32⟩
  | 85 => ⟨S78x78x78, .f32⟩
  | 86 => ⟨S_, .f32⟩
  | 87 => ⟨S78x78x78, .f32⟩
  | 88 => ⟨S78x78x78, .f32⟩
  | 89 => ⟨S_, .f32⟩
  | 90 => ⟨S78x78x78, .f32⟩
  | 91 => ⟨S78x78x78, .f32⟩
  | 92 => ⟨S_, .f32⟩
  | 93 => ⟨S78x78x78, .f32⟩
  | 94 => ⟨S78x78x78, .f32⟩
  | 95 => ⟨S_, .f32⟩
  | 96 => ⟨S78x78x78, .f32⟩
  | 97 => ⟨S78x78x78, .f32⟩
  | 98 => ⟨S_, .f32⟩
  | 99 => ⟨S78x78x78, .f32⟩
  | 100 => ⟨S78x78x78, .i1⟩
  | 101 => ⟨S78x78x78, .f32⟩
  | 102 => ⟨S78x78x78, .f32⟩
  | 103 => ⟨S78x78x78, .f32⟩
  | 104 => ⟨S78x78x78, .f32⟩
  | 105 => ⟨S_, .f32⟩
  | 106 => ⟨S78x78x78, .f32⟩
  | 107 => ⟨S78x78x78, .i1⟩
  | 108 => ⟨S78x78x78, .f32⟩
  | 109 => ⟨S78x78x78, .f32⟩
  | 110 => ⟨S78x78x78, .f32⟩
  | 111 => ⟨S78x78x78, .f32⟩
  | 112 => ⟨S78x78x78, .f32⟩
  | 113 => ⟨S78x78x78, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S78x78x78, .i32⟩
  | 121 => ⟨S78x78x78, .i32⟩
  | 122 => ⟨S_, .i32⟩
  | 123 => ⟨S78x78x78, .i32⟩
  | 124 => ⟨S78x78x78, .i1⟩
  | 125 => ⟨S_, .i32⟩
  | 126 => ⟨S78x78x78, .i32⟩
  | 127 => ⟨S78x78x78, .i1⟩
  | _ => ⟨S64x64x64, .f32⟩

abbrev hbmTy0_5 (i : Nat) : BufTy := match i % 128 with
  | 0 => ⟨S_, .i32⟩
  | 1 => ⟨S_, .i1⟩
  | 2 => ⟨S78x78x78, .i1⟩
  | 3 => ⟨S78x78x78, .i1⟩
  | 4 => ⟨S78x78x78, .i1⟩
  | 5 => ⟨S78x78x78, .i32⟩
  | 6 => ⟨S78x78x78, .i32⟩
  | 7 => ⟨S78x78x78, .i32⟩
  | 8 => ⟨S78x78x78, .f32⟩
  | 9 => ⟨S78x78x78, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S78x78x78, .i32⟩
  | 17 => ⟨S78x78x78, .i32⟩
  | 18 => ⟨S_, .i32⟩
  | 19 => ⟨S78x78x78, .i32⟩
  | 20 => ⟨S78x78x78, .i1⟩
  | 21 => ⟨S_, .i32⟩
  | 22 => ⟨S78x78x78, .i32⟩
  | 23 => ⟨S78x78x78, .i1⟩
  | 24 => ⟨S_, .i32⟩
  | 25 => ⟨S_, .i1⟩
  | 26 => ⟨S78x78x78, .i1⟩
  | 27 => ⟨S78x78x78, .i1⟩
  | 28 => ⟨S78x78x78, .i1⟩
  | 29 => ⟨S78x78x78, .i32⟩
  | 30 => ⟨S78x78x78, .i32⟩
  | 31 => ⟨S78x78x78, .i32⟩
  | 32 => ⟨S78x78x78, .f32⟩
  | 33 => ⟨S78x78x78, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S78x78x78, .i32⟩
  | 41 => ⟨S78x78x78, .i32⟩
  | 42 => ⟨S_, .i32⟩
  | 43 => ⟨S78x78x78, .i32⟩
  | 44 => ⟨S78x78x78, .i1⟩
  | 45 => ⟨S_, .i32⟩
  | 46 => ⟨S78x78x78, .i32⟩
  | 47 => ⟨S78x78x78, .i1⟩
  | 48 => ⟨S_, .i32⟩
  | 49 => ⟨S_, .i1⟩
  | 50 => ⟨S78x78x78, .i1⟩
  | 51 => ⟨S78x78x78, .i1⟩
  | 52 => ⟨S78x78x78, .i1⟩
  | 53 => ⟨S78x78x78, .i32⟩
  | 54 => ⟨S78x78x78, .i32⟩
  | 55 => ⟨S78x78x78, .i32⟩
  | 56 => ⟨S78x78x78, .f32⟩
  | 57 => ⟨S78x78x78, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S78x78x78, .i32⟩
  | 65 => ⟨S78x78x78, .i32⟩
  | 66 => ⟨S_, .i32⟩
  | 67 => ⟨S78x78x78, .i32⟩
  | 68 => ⟨S78x78x78, .i1⟩
  | 69 => ⟨S_, .i32⟩
  | 70 => ⟨S78x78x78, .i32⟩
  | 71 => ⟨S78x78x78, .i1⟩
  | 72 => ⟨S_, .i32⟩
  | 73 => ⟨S_, .i1⟩
  | 74 => ⟨S78x78x78, .i1⟩
  | 75 => ⟨S78x78x78, .i1⟩
  | 76 => ⟨S78x78x78, .i1⟩
  | 77 => ⟨S78x78x78, .i32⟩
  | 78 => ⟨S78x78x78, .i32⟩
  | 79 => ⟨S78x78x78, .i32⟩
  | 80 => ⟨S78x78x78, .f32⟩
  | 81 => ⟨S_, .f32⟩
  | 82 => ⟨S78x78x78, .f32⟩
  | 83 => ⟨S78x78x78, .f32⟩
  | 84 => ⟨S78x78x78, .f32⟩
  | 85 => ⟨S78x78x78, .f32⟩
  | 86 => ⟨S_, .f32⟩
  | 87 => ⟨S78x78x78, .f32⟩
  | 88 => ⟨S78x78x78, .f32⟩
  | 89 => ⟨S78x78x78, .f32⟩
  | 90 => ⟨S474552, .i32⟩
  | 91 => ⟨S474552, .f32⟩
  | 92 => ⟨S_, .f32⟩
  | 93 => ⟨S64x474552, .f32⟩
  | 94 => ⟨S474552, .i32⟩
  | 95 => ⟨S_, .i32⟩
  | 96 => ⟨S474552, .i32⟩
  | 97 => ⟨S474552, .i32⟩
  | 98 => ⟨S474552, .i32⟩
  | 99 => ⟨S474552, .i32⟩
  | 100 => ⟨S78x78x78, .f32⟩
  | 101 => ⟨S474552, .f32⟩
  | 102 => ⟨S474552, .f32⟩
  | 103 => ⟨S_, .i32⟩
  | 104 => ⟨S474552, .i32⟩
  | 105 => ⟨S474552, .i1⟩
  | 106 => ⟨S_, .i32⟩
  | 107 => ⟨S474552, .i32⟩
  | 108 => ⟨S474552, .i32⟩
  | 109 => ⟨S474552, .i32⟩
  | 110 => ⟨S_, .i32⟩
  | 111 => ⟨S474552, .i32⟩
  | 112 => ⟨S474552, .i1⟩
  | 113 => ⟨S_, .i32⟩
  | 114 => ⟨S474552, .i32⟩
  | 115 => ⟨S474552, .i32⟩
  | 116 => ⟨S474552, .i32⟩
  | 117 => ⟨S474552x1, .i32⟩
  | 118 => ⟨S474552x1, .i32⟩
  | 119 => ⟨S474552x2, .i32⟩
  | 120 => ⟨S64x474552, .f32⟩
  | 121 => ⟨S474552, .i32⟩
  | 122 => ⟨S_, .i32⟩
  | 123 => ⟨S474552, .i32⟩
  | 124 => ⟨S474552, .i32⟩
  | 125 => ⟨S474552, .i32⟩
  | 126 => ⟨S474552, .i32⟩
  | 127 => ⟨S78x78x78, .f32⟩
  | _ => ⟨S64x64x64, .f32⟩

abbrev hbmTy0_6 (i : Nat) : BufTy := match i % 128 with
  | 0 => ⟨S474552, .f32⟩
  | 1 => ⟨S474552, .f32⟩
  | 2 => ⟨S_, .i32⟩
  | 3 => ⟨S474552, .i32⟩
  | 4 => ⟨S474552, .i1⟩
  | 5 => ⟨S_, .i32⟩
  | 6 => ⟨S474552, .i32⟩
  | 7 => ⟨S474552, .i32⟩
  | 8 => ⟨S474552, .i32⟩
  | 9 => ⟨S_, .i32⟩
  | 10 => ⟨S474552, .i32⟩
  | 11 => ⟨S474552, .i1⟩
  | 12 => ⟨S_, .i32⟩
  | 13 => ⟨S474552, .i32⟩
  | 14 => ⟨S474552, .i32⟩
  | 15 => ⟨S474552, .i32⟩
  | 16 => ⟨S474552x1, .i32⟩
  | 17 => ⟨S474552x1, .i32⟩
  | 18 => ⟨S474552x2, .i32⟩
  | 19 => ⟨S64x474552, .f32⟩
  | 20 => ⟨S474552, .i32⟩
  | 21 => ⟨S_, .i32⟩
  | 22 => ⟨S474552, .i32⟩
  | 23 => ⟨S474552, .i32⟩
  | 24 => ⟨S474552, .i32⟩
  | 25 => ⟨S474552, .i32⟩
  | 26 => ⟨S78x78x78, .f32⟩
  | 27 => ⟨S474552, .f32⟩
  | 28 => ⟨S474552, .f32⟩
  | 29 => ⟨S_, .i32⟩
  | 30 => ⟨S474552, .i32⟩
  | 31 => ⟨S474552, .i1⟩
  | 32 => ⟨S_, .i32⟩
  | 33 => ⟨S474552, .i32⟩
  | 34 => ⟨S474552, .i32⟩
  | 35 => ⟨S474552, .i32⟩
  | 36 => ⟨S_, .i32⟩
  | 37 => ⟨S474552, .i32⟩
  | 38 => ⟨S474552, .i1⟩
  | 39 => ⟨S_, .i32⟩
  | 40 => ⟨S474552, .i32⟩
  | 41 => ⟨S474552, .i32⟩
  | 42 => ⟨S474552, .i32⟩
  | 43 => ⟨S474552x1, .i32⟩
  | 44 => ⟨S474552x1, .i32⟩
  | 45 => ⟨S474552x2, .i32⟩
  | 46 => ⟨S64x474552, .f32⟩
  | 47 => ⟨S474552, .i32⟩
  | 48 => ⟨S_, .i32⟩
  | 49 => ⟨S474552, .i32⟩
  | 50 => ⟨S474552, .i32⟩
  | 51 => ⟨S474552, .i32⟩
  | 52 => ⟨S474552, .i32⟩
  | 53 => ⟨S78x78x78, .f32⟩
  | 54 => ⟨S474552, .f32⟩
  | 55 => ⟨S474552, .f32⟩
  | 56 => ⟨S_, .i32⟩
  | 57 => ⟨S474552, .i32⟩
  | 58 => ⟨S474552, .i1⟩
  | 59 => ⟨S_, .i32⟩
  | 60 => ⟨S474552, .i32⟩
  | 61 => ⟨S474552, .i32⟩
  | 62 => ⟨S474552, .i32⟩
  | 63 => ⟨S_, .i32⟩
  | 64 => ⟨S474552, .i32⟩
  | 65 => ⟨S474552, .i1⟩
  | 66 => ⟨S_, .i32⟩
  | 67 => ⟨S474552, .i32⟩
  | 68 => ⟨S474552, .i32⟩
  | 69 => ⟨S474552, .i32⟩
  | 70 => ⟨S474552x1, .i32⟩
  | 71 => ⟨S474552x1, .i32⟩
  | 72 => ⟨S474552x2, .i32⟩
  | 73 => ⟨S64x474552, .f32⟩
  | 74 => ⟨S64x78x78x78, .f32⟩
  | 75 => ⟨S_, .f32⟩
  | 76 => ⟨S_, .f32⟩
  | 77 => ⟨S64x78x78x78, .f32⟩
  | 78 => ⟨S_, .f32⟩
  | 79 => ⟨S_, .f32⟩
  | 80 => ⟨S64x78x78x78, .f32⟩
  | 81 => ⟨S_, .f32⟩
  | 82 => ⟨S_, .f32⟩
  | 83 => ⟨S64x78x78x78, .f32⟩
  | 84 => ⟨S_, .f32⟩
  | 85 => ⟨S1x78x78x78, .f32⟩
  | 86 => ⟨S_, .f32⟩
  | 87 => ⟨S_, .f32⟩
  | 88 => ⟨S1x78x78x78, .f32⟩
  | 89 => ⟨S_, .f32⟩
  | 90 => ⟨S_, .f32⟩
  | 91 => ⟨S1x78x78x78, .f32⟩
  | 92 => ⟨S_, .f32⟩
  | 93 => ⟨S_, .f32⟩
  | 94 => ⟨S1x78x78x78, .f32⟩
  | 95 => ⟨S64x78x78x78, .f32⟩
  | 96 => ⟨S64x78x78x78, .f32⟩
  | _ => ⟨S64x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x64x64, .f32⟩

abbrev bufTy : (tb : Table) → Fin (tcTables nBuf tb) → BufTy
  | .hbm, ⟨i, _⟩ => hbmTy i
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_cst_0 : Ref sig .tc := ⟨.hbm, 251, rfl⟩
abbrev main_v246 : Ref sig .tc := ⟨.hbm, 252, rfl⟩
abbrev main_cst_1 : Ref sig .tc := ⟨.hbm, 253, rfl⟩
abbrev main_v247 : Ref sig .tc := ⟨.hbm, 254, rfl⟩
abbrev main_v248 : Ref sig .tc := ⟨.hbm, 255, rfl⟩
abbrev main_cst_2 : Ref sig .tc := ⟨.hbm, 256, rfl⟩
abbrev main_call1_v0 : Ref sig .tc := ⟨.hbm, 257, rfl⟩
abbrev main_call1_v1 : Ref sig .tc := ⟨.hbm, 258, rfl⟩
abbrev main_v249 : Ref sig .tc := ⟨.hbm, 259, rfl⟩
abbrev main_v250 : Ref sig .tc := ⟨.hbm, 260, rfl⟩
abbrev main_cst_3 : Ref sig .tc := ⟨.hbm, 261, rfl⟩
abbrev main_call2_v0 : Ref sig .tc := ⟨.hbm, 262, rfl⟩
abbrev main_call2_v1 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_cst_4 : Ref sig .tc := ⟨.hbm, 267, rfl⟩
abbrev main_call3_v0 : Ref sig .tc := ⟨.hbm, 268, rfl⟩
abbrev main_call3_v1 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_cst_5 : Ref sig .tc := ⟨.hbm, 273, rfl⟩
abbrev main_call4_v0 : Ref sig .tc := ⟨.hbm, 274, rfl⟩
abbrev main_call4_v1 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_cst_6 : Ref sig .tc := ⟨.hbm, 280, rfl⟩
abbrev main_v261 : Ref sig .tc := ⟨.hbm, 281, rfl⟩
abbrev main_v262 : Ref sig .tc := ⟨.hbm, 282, rfl⟩
abbrev main_cst_7 : Ref sig .tc := ⟨.hbm, 283, rfl⟩
abbrev main_call5_v0 : Ref sig .tc := ⟨.hbm, 284, rfl⟩
abbrev main_call5_v1 : Ref sig .tc := ⟨.hbm, 285, rfl⟩
abbrev main_v263 : Ref sig .tc := ⟨.hbm, 286, rfl⟩
abbrev main_v264 : Ref sig .tc := ⟨.hbm, 287, rfl⟩
abbrev main_cst_8 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_cst_9 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_cst_10 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_cst_11 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_cst_12 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_cst_13 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_cst_14 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_cst_15 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_cst_16 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev main_cst_17 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_cst_18 : Ref sig .tc := ⟨.hbm, 345, rfl⟩
abbrev main_v312 : Ref sig .tc := ⟨.hbm, 346, rfl⟩
abbrev main_v313 : Ref sig .tc := ⟨.hbm, 347, rfl⟩
abbrev main_cst_19 : Ref sig .tc := ⟨.hbm, 348, rfl⟩
abbrev main_call6_v0 : Ref sig .tc := ⟨.hbm, 349, rfl⟩
abbrev main_call6_v1 : Ref sig .tc := ⟨.hbm, 350, rfl⟩
abbrev main_v314 : Ref sig .tc := ⟨.hbm, 351, rfl⟩
abbrev main_v315 : Ref sig .tc := ⟨.hbm, 352, rfl⟩
abbrev main_cst_20 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_cst_21 : Ref sig .tc := ⟨.hbm, 358, rfl⟩
abbrev main_v320 : Ref sig .tc := ⟨.hbm, 359, rfl⟩
abbrev main_v321 : Ref sig .tc := ⟨.hbm, 360, rfl⟩
abbrev main_v322 : Ref sig .tc := ⟨.hbm, 361, rfl⟩
abbrev main_v323 : Ref sig .tc := ⟨.hbm, 362, rfl⟩
abbrev main_v324 : Ref sig .tc := ⟨.hbm, 363, rfl⟩
abbrev main_cst_22 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_cst_23 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_cst_24 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_cst_25 : Ref sig .tc := ⟨.hbm, 382, rfl⟩
abbrev main_v340 : Ref sig .tc := ⟨.hbm, 383, rfl⟩
abbrev main_v341 : Ref sig .tc := ⟨.hbm, 384, rfl⟩
abbrev main_v342 : Ref sig .tc := ⟨.hbm, 385, rfl⟩
abbrev main_v343 : Ref sig .tc := ⟨.hbm, 386, rfl⟩
abbrev main_v344 : Ref sig .tc := ⟨.hbm, 387, rfl⟩
abbrev main_cst_26 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_cst_27 : Ref sig .tc := ⟨.hbm, 394, rfl⟩
abbrev main_v350 : Ref sig .tc := ⟨.hbm, 395, rfl⟩
abbrev main_v351 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_cst_28 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_cst_29 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_cst_30 : Ref sig .tc := ⟨.hbm, 410, rfl⟩
abbrev main_v363 : Ref sig .tc := ⟨.hbm, 411, rfl⟩
abbrev main_v364 : Ref sig .tc := ⟨.hbm, 412, rfl⟩
abbrev main_v365 : Ref sig .tc := ⟨.hbm, 413, rfl⟩
abbrev main_cst_31 : Ref sig .tc := ⟨.hbm, 414, rfl⟩
abbrev main_v366 : Ref sig .tc := ⟨.hbm, 415, rfl⟩
abbrev main_v367 : Ref sig .tc := ⟨.hbm, 416, rfl⟩
abbrev main_cst_32 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_cst_33 : Ref sig .tc := ⟨.hbm, 421, rfl⟩
abbrev main_v371 : Ref sig .tc := ⟨.hbm, 422, rfl⟩
abbrev main_v372 : Ref sig .tc := ⟨.hbm, 423, rfl⟩
abbrev main_v373 : Ref sig .tc := ⟨.hbm, 424, rfl⟩
abbrev main_v374 : Ref sig .tc := ⟨.hbm, 425, rfl⟩
abbrev main_cst_34 : Ref sig .tc := ⟨.hbm, 426, rfl⟩
abbrev main_call10_v0 : Ref sig .tc := ⟨.hbm, 427, rfl⟩
abbrev main_call10_v1 : Ref sig .tc := ⟨.hbm, 428, rfl⟩
abbrev main_v375 : Ref sig .tc := ⟨.hbm, 429, rfl⟩
abbrev main_v376 : Ref sig .tc := ⟨.hbm, 430, rfl⟩
abbrev main_v377 : Ref sig .tc := ⟨.hbm, 431, rfl⟩
abbrev main_cst_35 : Ref sig .tc := ⟨.hbm, 432, rfl⟩
abbrev main_v378 : Ref sig .tc := ⟨.hbm, 433, rfl⟩
abbrev main_v379 : Ref sig .tc := ⟨.hbm, 434, rfl⟩
abbrev main_v380 : Ref sig .tc := ⟨.hbm, 435, rfl⟩
abbrev main_cst_36 : Ref sig .tc := ⟨.hbm, 436, rfl⟩
abbrev main_cst_37 : Ref sig .tc := ⟨.hbm, 437, rfl⟩
abbrev main_call11_v0 : Ref sig .tc := ⟨.hbm, 438, rfl⟩
abbrev main_call11_v1 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_v381 : Ref sig .tc := ⟨.hbm, 443, rfl⟩
abbrev main_v382 : Ref sig .tc := ⟨.hbm, 444, rfl⟩
abbrev main_cst_38 : Ref sig .tc := ⟨.hbm, 445, rfl⟩
abbrev main_v383 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_v387 : Ref sig .tc := ⟨.hbm, 450, rfl⟩
abbrev main_v388 : Ref sig .tc := ⟨.hbm, 451, rfl⟩
abbrev main_cst_39 : Ref sig .tc := ⟨.hbm, 452, rfl⟩
abbrev main_v389 : Ref sig .tc := ⟨.hbm, 453, rfl⟩
abbrev main_v390 : Ref sig .tc := ⟨.hbm, 454, rfl⟩
abbrev main_cst_40 : Ref sig .tc := ⟨.hbm, 455, rfl⟩
abbrev main_call12_v0 : Ref sig .tc := ⟨.hbm, 456, rfl⟩
abbrev main_call12_v1 : Ref sig .tc := ⟨.hbm, 457, rfl⟩
abbrev main_v391 : Ref sig .tc := ⟨.hbm, 458, rfl⟩
abbrev main_v392 : Ref sig .tc := ⟨.hbm, 459, rfl⟩
abbrev main_cst_41 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_cst_42 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_cst_43 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_v405 : Ref sig .tc := ⟨.hbm, 475, rfl⟩
abbrev main_v406 : Ref sig .tc := ⟨.hbm, 476, rfl⟩
abbrev main_cst_44 : Ref sig .tc := ⟨.hbm, 477, rfl⟩
abbrev main_v407 : Ref sig .tc := ⟨.hbm, 478, rfl⟩
abbrev main_v408 : Ref sig .tc := ⟨.hbm, 479, rfl⟩
abbrev main_v409 : Ref sig .tc := ⟨.hbm, 480, rfl⟩
abbrev main_v410 : Ref sig .tc := ⟨.hbm, 481, rfl⟩
abbrev main_v411 : Ref sig .tc := ⟨.hbm, 482, rfl⟩
abbrev main_cst_45 : Ref sig .tc := ⟨.hbm, 483, rfl⟩
abbrev main_v412 : Ref sig .tc := ⟨.hbm, 484, rfl⟩
abbrev main_v413 : Ref sig .tc := ⟨.hbm, 485, rfl⟩
abbrev main_v414 : Ref sig .tc := ⟨.hbm, 486, rfl⟩
abbrev main_v415 : Ref sig .tc := ⟨.hbm, 487, rfl⟩
abbrev main_v416 : Ref sig .tc := ⟨.hbm, 488, rfl⟩
abbrev main_cst_46 : Ref sig .tc := ⟨.hbm, 489, rfl⟩
abbrev main_v417 : Ref sig .tc := ⟨.hbm, 490, rfl⟩
abbrev main_v418 : Ref sig .tc := ⟨.hbm, 491, rfl⟩
abbrev main_v419 : Ref sig .tc := ⟨.hbm, 492, rfl⟩
abbrev main_v420 : Ref sig .tc := ⟨.hbm, 493, rfl⟩
abbrev main_v421 : Ref sig .tc := ⟨.hbm, 494, rfl⟩
abbrev main_cst_47 : Ref sig .tc := ⟨.hbm, 495, rfl⟩
abbrev main_v422 : Ref sig .tc := ⟨.hbm, 496, rfl⟩
abbrev main_v423 : Ref sig .tc := ⟨.hbm, 497, rfl⟩
abbrev main_v424 : Ref sig .tc := ⟨.hbm, 498, rfl⟩
abbrev main_v425 : Ref sig .tc := ⟨.hbm, 499, rfl⟩
abbrev main_v426 : Ref sig .tc := ⟨.hbm, 500, rfl⟩
abbrev main_cst_48 : Ref sig .tc := ⟨.hbm, 501, rfl⟩
abbrev main_v427 : Ref sig .tc := ⟨.hbm, 502, rfl⟩
abbrev main_v428 : Ref sig .tc := ⟨.hbm, 503, rfl⟩
abbrev main_v429 : Ref sig .tc := ⟨.hbm, 504, rfl⟩
abbrev main_v430 : Ref sig .tc := ⟨.hbm, 505, rfl⟩
abbrev main_v431 : Ref sig .tc := ⟨.hbm, 506, rfl⟩
abbrev main_cst_49 : Ref sig .tc := ⟨.hbm, 507, rfl⟩
abbrev main_v432 : Ref sig .tc := ⟨.hbm, 508, rfl⟩
abbrev main_v433 : Ref sig .tc := ⟨.hbm, 509, rfl⟩
abbrev main_v434 : Ref sig .tc := ⟨.hbm, 510, rfl⟩
abbrev main_v435 : Ref sig .tc := ⟨.hbm, 511, rfl⟩
abbrev main_v436 : Ref sig .tc := ⟨.hbm, 512, rfl⟩
abbrev main_cst_50 : Ref sig .tc := ⟨.hbm, 513, rfl⟩
abbrev main_v437 : Ref sig .tc := ⟨.hbm, 514, rfl⟩
abbrev main_v438 : Ref sig .tc := ⟨.hbm, 515, rfl⟩
abbrev main_v439 : Ref sig .tc := ⟨.hbm, 516, rfl⟩
abbrev main_cst_51 : Ref sig .tc := ⟨.hbm, 517, rfl⟩
abbrev main_v440 : Ref sig .tc := ⟨.hbm, 518, rfl⟩
abbrev main_v441 : Ref sig .tc := ⟨.hbm, 519, rfl⟩
abbrev main_cst_52 : Ref sig .tc := ⟨.hbm, 520, rfl⟩
abbrev main_call13_v0 : Ref sig .tc := ⟨.hbm, 521, rfl⟩
abbrev main_call13_v1 : Ref sig .tc := ⟨.hbm, 522, rfl⟩
abbrev main_v442 : Ref sig .tc := ⟨.hbm, 523, rfl⟩
abbrev main_v443 : Ref sig .tc := ⟨.hbm, 524, rfl⟩
abbrev main_cst_53 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩
abbrev main_v447 : Ref sig .tc := ⟨.hbm, 529, rfl⟩
abbrev main_cst_54 : Ref sig .tc := ⟨.hbm, 530, rfl⟩
abbrev main_v448 : Ref sig .tc := ⟨.hbm, 531, rfl⟩
abbrev main_v449 : Ref sig .tc := ⟨.hbm, 532, rfl⟩
abbrev main_v450 : Ref sig .tc := ⟨.hbm, 533, rfl⟩
abbrev main_v451 : Ref sig .tc := ⟨.hbm, 534, rfl⟩
abbrev main_v452 : Ref sig .tc := ⟨.hbm, 535, rfl⟩
abbrev main_cst_55 : Ref sig .tc := ⟨.hbm, 536, rfl⟩
abbrev main_v453 : Ref sig .tc := ⟨.hbm, 537, rfl⟩
abbrev main_v454 : Ref sig .tc := ⟨.hbm, 538, rfl⟩
abbrev main_v455 : Ref sig .tc := ⟨.hbm, 539, rfl⟩
abbrev main_v456 : Ref sig .tc := ⟨.hbm, 540, rfl⟩
abbrev main_v457 : Ref sig .tc := ⟨.hbm, 541, rfl⟩
abbrev main_cst_56 : Ref sig .tc := ⟨.hbm, 542, rfl⟩
abbrev main_v458 : Ref sig .tc := ⟨.hbm, 543, rfl⟩
abbrev main_v459 : Ref sig .tc := ⟨.hbm, 544, rfl⟩
abbrev main_v460 : Ref sig .tc := ⟨.hbm, 545, rfl⟩
abbrev main_v461 : Ref sig .tc := ⟨.hbm, 546, rfl⟩
abbrev main_v462 : Ref sig .tc := ⟨.hbm, 547, rfl⟩
abbrev main_cst_57 : Ref sig .tc := ⟨.hbm, 548, rfl⟩
abbrev main_v463 : Ref sig .tc := ⟨.hbm, 549, rfl⟩
abbrev main_v464 : Ref sig .tc := ⟨.hbm, 550, rfl⟩
abbrev main_v465 : Ref sig .tc := ⟨.hbm, 551, rfl⟩
abbrev main_v466 : Ref sig .tc := ⟨.hbm, 552, rfl⟩
abbrev main_v467 : Ref sig .tc := ⟨.hbm, 553, rfl⟩
abbrev main_cst_58 : Ref sig .tc := ⟨.hbm, 554, rfl⟩
abbrev main_v468 : Ref sig .tc := ⟨.hbm, 555, rfl⟩
abbrev main_v469 : Ref sig .tc := ⟨.hbm, 556, rfl⟩
abbrev main_v470 : Ref sig .tc := ⟨.hbm, 557, rfl⟩
abbrev main_v471 : Ref sig .tc := ⟨.hbm, 558, rfl⟩
abbrev main_v472 : Ref sig .tc := ⟨.hbm, 559, rfl⟩
abbrev main_cst_59 : Ref sig .tc := ⟨.hbm, 560, rfl⟩
abbrev main_v473 : Ref sig .tc := ⟨.hbm, 561, rfl⟩
abbrev main_v474 : Ref sig .tc := ⟨.hbm, 562, rfl⟩
abbrev main_v475 : Ref sig .tc := ⟨.hbm, 563, rfl⟩
abbrev main_v476 : Ref sig .tc := ⟨.hbm, 564, rfl⟩
abbrev main_v477 : Ref sig .tc := ⟨.hbm, 565, rfl⟩
abbrev main_cst_60 : Ref sig .tc := ⟨.hbm, 566, rfl⟩
abbrev main_v478 : Ref sig .tc := ⟨.hbm, 567, rfl⟩
abbrev main_v479 : Ref sig .tc := ⟨.hbm, 568, rfl⟩
abbrev main_v480 : Ref sig .tc := ⟨.hbm, 569, rfl⟩
abbrev main_v481 : Ref sig .tc := ⟨.hbm, 570, rfl⟩
abbrev main_v482 : Ref sig .tc := ⟨.hbm, 571, rfl⟩
abbrev main_cst_61 : Ref sig .tc := ⟨.hbm, 572, rfl⟩
abbrev main_v483 : Ref sig .tc := ⟨.hbm, 573, rfl⟩
abbrev main_v484 : Ref sig .tc := ⟨.hbm, 574, rfl⟩
abbrev main_v485 : Ref sig .tc := ⟨.hbm, 575, rfl⟩
abbrev main_v486 : Ref sig .tc := ⟨.hbm, 576, rfl⟩
abbrev main_v487 : Ref sig .tc := ⟨.hbm, 577, rfl⟩
abbrev main_cst_62 : Ref sig .tc := ⟨.hbm, 578, rfl⟩
abbrev main_v488 : Ref sig .tc := ⟨.hbm, 579, rfl⟩
abbrev main_v489 : Ref sig .tc := ⟨.hbm, 580, rfl⟩
abbrev main_v490 : Ref sig .tc := ⟨.hbm, 581, rfl⟩
abbrev main_cst_63 : Ref sig .tc := ⟨.hbm, 582, rfl⟩
abbrev main_v491 : Ref sig .tc := ⟨.hbm, 583, rfl⟩
abbrev main_v492 : Ref sig .tc := ⟨.hbm, 584, rfl⟩
abbrev main_v493 : Ref sig .tc := ⟨.hbm, 585, rfl⟩
abbrev main_cst_64 : Ref sig .tc := ⟨.hbm, 586, rfl⟩
abbrev main_v494 : Ref sig .tc := ⟨.hbm, 587, rfl⟩
abbrev main_v495 : Ref sig .tc := ⟨.hbm, 588, rfl⟩
abbrev main_cst_65 : Ref sig .tc := ⟨.hbm, 589, rfl⟩
abbrev main_v496 : Ref sig .tc := ⟨.hbm, 590, rfl⟩
abbrev main_v497 : Ref sig .tc := ⟨.hbm, 591, rfl⟩
abbrev main_v498 : Ref sig .tc := ⟨.hbm, 592, rfl⟩
abbrev main_cst_66 : Ref sig .tc := ⟨.hbm, 593, rfl⟩
abbrev main_v499 : Ref sig .tc := ⟨.hbm, 594, rfl⟩
abbrev main_v500 : Ref sig .tc := ⟨.hbm, 595, rfl⟩
abbrev main_v501 : Ref sig .tc := ⟨.hbm, 596, rfl⟩
abbrev main_v502 : Ref sig .tc := ⟨.hbm, 597, rfl⟩
abbrev main_cst_67 : Ref sig .tc := ⟨.hbm, 598, rfl⟩
abbrev main_v503 : Ref sig .tc := ⟨.hbm, 599, rfl⟩
abbrev main_v504 : Ref sig .tc := ⟨.hbm, 600, rfl⟩
abbrev main_cst_68 : Ref sig .tc := ⟨.hbm, 601, rfl⟩
abbrev main_v505 : Ref sig .tc := ⟨.hbm, 602, rfl⟩
abbrev main_v506 : Ref sig .tc := ⟨.hbm, 603, rfl⟩
abbrev main_cst_69 : Ref sig .tc := ⟨.hbm, 604, rfl⟩
abbrev main_v507 : Ref sig .tc := ⟨.hbm, 605, rfl⟩
abbrev main_v508 : Ref sig .tc := ⟨.hbm, 606, rfl⟩
abbrev main_cst_70 : Ref sig .tc := ⟨.hbm, 607, rfl⟩
abbrev main_v509 : Ref sig .tc := ⟨.hbm, 608, rfl⟩
abbrev main_v510 : Ref sig .tc := ⟨.hbm, 609, rfl⟩
abbrev main_call17_cst : Ref sig .tc := ⟨.hbm, 610, rfl⟩
abbrev main_call17_v0 : Ref sig .tc := ⟨.hbm, 611, rfl⟩
abbrev main_call17_v1 : Ref sig .tc := ⟨.hbm, 612, rfl⟩
abbrev main_call17_v2 : Ref sig .tc := ⟨.hbm, 613, rfl⟩
abbrev main_call17_v3 : Ref sig .tc := ⟨.hbm, 614, rfl⟩
abbrev main_v511 : Ref sig .tc := ⟨.hbm, 615, rfl⟩
abbrev main_v512 : Ref sig .tc := ⟨.hbm, 616, rfl⟩
abbrev main_call18_cst : Ref sig .tc := ⟨.hbm, 617, rfl⟩
abbrev main_call18_v0 : Ref sig .tc := ⟨.hbm, 618, rfl⟩
abbrev main_call18_v1 : Ref sig .tc := ⟨.hbm, 619, rfl⟩
abbrev main_call18_v2 : Ref sig .tc := ⟨.hbm, 620, rfl⟩
abbrev main_call18_v3 : Ref sig .tc := ⟨.hbm, 621, rfl⟩
abbrev main_v513 : Ref sig .tc := ⟨.hbm, 622, rfl⟩
abbrev main_v514 : Ref sig .tc := ⟨.hbm, 623, rfl⟩
abbrev main_v515 : Ref sig .tc := ⟨.hbm, 624, rfl⟩
abbrev main_v516 : Ref sig .tc := ⟨.hbm, 625, rfl⟩
abbrev main_c_71 : Ref sig .tc := ⟨.hbm, 626, rfl⟩
abbrev main_call19_v0 : Ref sig .tc := ⟨.hbm, 627, rfl⟩
abbrev main_call19_c : Ref sig .tc := ⟨.hbm, 628, rfl⟩
abbrev main_call19_v1 : Ref sig .tc := ⟨.hbm, 629, rfl⟩
abbrev main_call19_c_0 : Ref sig .tc := ⟨.hbm, 630, rfl⟩
abbrev main_call19_v2 : Ref sig .tc := ⟨.hbm, 631, rfl⟩
abbrev main_call19_v3 : Ref sig .tc := ⟨.hbm, 632, rfl⟩
abbrev main_call19_v4 : Ref sig .tc := ⟨.hbm, 633, rfl⟩
abbrev main_call19_c_1 : Ref sig .tc := ⟨.hbm, 634, rfl⟩
abbrev main_call19_v5 : Ref sig .tc := ⟨.hbm, 635, rfl⟩
abbrev main_call19_v6 : Ref sig .tc := ⟨.hbm, 636, rfl⟩
abbrev main_call19_c_2 : Ref sig .tc := ⟨.hbm, 637, rfl⟩
abbrev main_call19_v7 : Ref sig .tc := ⟨.hbm, 638, rfl⟩
abbrev main_call19_v8 : Ref sig .tc := ⟨.hbm, 639, rfl⟩
abbrev main_call19_c_3 : Ref sig .tc := ⟨.hbm, 640, rfl⟩
abbrev main_call19_v9 : Ref sig .tc := ⟨.hbm, 641, rfl⟩
abbrev main_call19_v10 : Ref sig .tc := ⟨.hbm, 642, rfl⟩
abbrev main_call19_v11 : Ref sig .tc := ⟨.hbm, 643, rfl⟩
abbrev main_call19_v12 : Ref sig .tc := ⟨.hbm, 644, rfl⟩
abbrev main_call19_v13 : Ref sig .tc := ⟨.hbm, 645, rfl⟩
abbrev main_call19_v14 : Ref sig .tc := ⟨.hbm, 646, rfl⟩
abbrev main_v517 : Ref sig .tc := ⟨.hbm, 647, rfl⟩
abbrev main_v518 : Ref sig .tc := ⟨.hbm, 648, rfl⟩
abbrev main_v519 : Ref sig .tc := ⟨.hbm, 649, rfl⟩
abbrev main_c_72 : Ref sig .tc := ⟨.hbm, 650, rfl⟩
abbrev main_call20_v0 : Ref sig .tc := ⟨.hbm, 651, rfl⟩
abbrev main_call20_c : Ref sig .tc := ⟨.hbm, 652, rfl⟩
abbrev main_call20_v1 : Ref sig .tc := ⟨.hbm, 653, rfl⟩
abbrev main_call20_c_0 : Ref sig .tc := ⟨.hbm, 654, rfl⟩
abbrev main_call20_v2 : Ref sig .tc := ⟨.hbm, 655, rfl⟩
abbrev main_call20_v3 : Ref sig .tc := ⟨.hbm, 656, rfl⟩
abbrev main_call20_v4 : Ref sig .tc := ⟨.hbm, 657, rfl⟩
abbrev main_call20_c_1 : Ref sig .tc := ⟨.hbm, 658, rfl⟩
abbrev main_call20_v5 : Ref sig .tc := ⟨.hbm, 659, rfl⟩
abbrev main_call20_v6 : Ref sig .tc := ⟨.hbm, 660, rfl⟩
abbrev main_call20_c_2 : Ref sig .tc := ⟨.hbm, 661, rfl⟩
abbrev main_call20_v7 : Ref sig .tc := ⟨.hbm, 662, rfl⟩
abbrev main_call20_v8 : Ref sig .tc := ⟨.hbm, 663, rfl⟩
abbrev main_call20_c_3 : Ref sig .tc := ⟨.hbm, 664, rfl⟩
abbrev main_call20_v9 : Ref sig .tc := ⟨.hbm, 665, rfl⟩
abbrev main_call20_v10 : Ref sig .tc := ⟨.hbm, 666, rfl⟩
abbrev main_call20_v11 : Ref sig .tc := ⟨.hbm, 667, rfl⟩
abbrev main_call20_v12 : Ref sig .tc := ⟨.hbm, 668, rfl⟩
abbrev main_call20_v13 : Ref sig .tc := ⟨.hbm, 669, rfl⟩
abbrev main_call20_v14 : Ref sig .tc := ⟨.hbm, 670, rfl⟩
abbrev main_v520 : Ref sig .tc := ⟨.hbm, 671, rfl⟩
abbrev main_v521 : Ref sig .tc := ⟨.hbm, 672, rfl⟩
abbrev main_v522 : Ref sig .tc := ⟨.hbm, 673, rfl⟩
abbrev main_c_73 : Ref sig .tc := ⟨.hbm, 674, rfl⟩
abbrev main_call21_v0 : Ref sig .tc := ⟨.hbm, 675, rfl⟩
abbrev main_call21_c : Ref sig .tc := ⟨.hbm, 676, rfl⟩
abbrev main_call21_v1 : Ref sig .tc := ⟨.hbm, 677, rfl⟩
abbrev main_call21_c_0 : Ref sig .tc := ⟨.hbm, 678, rfl⟩
abbrev main_call21_v2 : Ref sig .tc := ⟨.hbm, 679, rfl⟩
abbrev main_call21_v3 : Ref sig .tc := ⟨.hbm, 680, rfl⟩
abbrev main_call21_v4 : Ref sig .tc := ⟨.hbm, 681, rfl⟩
abbrev main_call21_c_1 : Ref sig .tc := ⟨.hbm, 682, rfl⟩
abbrev main_call21_v5 : Ref sig .tc := ⟨.hbm, 683, rfl⟩
abbrev main_call21_v6 : Ref sig .tc := ⟨.hbm, 684, rfl⟩
abbrev main_call21_c_2 : Ref sig .tc := ⟨.hbm, 685, rfl⟩
abbrev main_call21_v7 : Ref sig .tc := ⟨.hbm, 686, rfl⟩
abbrev main_call21_v8 : Ref sig .tc := ⟨.hbm, 687, rfl⟩
abbrev main_call21_c_3 : Ref sig .tc := ⟨.hbm, 688, rfl⟩
abbrev main_call21_v9 : Ref sig .tc := ⟨.hbm, 689, rfl⟩
abbrev main_call21_v10 : Ref sig .tc := ⟨.hbm, 690, rfl⟩
abbrev main_call21_v11 : Ref sig .tc := ⟨.hbm, 691, rfl⟩
abbrev main_call21_v12 : Ref sig .tc := ⟨.hbm, 692, rfl⟩
abbrev main_call21_v13 : Ref sig .tc := ⟨.hbm, 693, rfl⟩
abbrev main_call21_v14 : Ref sig .tc := ⟨.hbm, 694, rfl⟩
abbrev main_v523 : Ref sig .tc := ⟨.hbm, 695, rfl⟩
abbrev main_v524 : Ref sig .tc := ⟨.hbm, 696, rfl⟩
abbrev main_v525 : Ref sig .tc := ⟨.hbm, 697, rfl⟩
abbrev main_c_74 : Ref sig .tc := ⟨.hbm, 698, rfl⟩
abbrev main_call22_v0 : Ref sig .tc := ⟨.hbm, 699, rfl⟩
abbrev main_call22_c : Ref sig .tc := ⟨.hbm, 700, rfl⟩
abbrev main_call22_v1 : Ref sig .tc := ⟨.hbm, 701, rfl⟩
abbrev main_call22_c_0 : Ref sig .tc := ⟨.hbm, 702, rfl⟩
abbrev main_call22_v2 : Ref sig .tc := ⟨.hbm, 703, rfl⟩
abbrev main_call22_v3 : Ref sig .tc := ⟨.hbm, 704, rfl⟩
abbrev main_call22_v4 : Ref sig .tc := ⟨.hbm, 705, rfl⟩
abbrev main_call22_c_1 : Ref sig .tc := ⟨.hbm, 706, rfl⟩
abbrev main_call22_v5 : Ref sig .tc := ⟨.hbm, 707, rfl⟩
abbrev main_call22_v6 : Ref sig .tc := ⟨.hbm, 708, rfl⟩
abbrev main_call22_c_2 : Ref sig .tc := ⟨.hbm, 709, rfl⟩
abbrev main_call22_v7 : Ref sig .tc := ⟨.hbm, 710, rfl⟩
abbrev main_call22_v8 : Ref sig .tc := ⟨.hbm, 711, rfl⟩
abbrev main_call22_c_3 : Ref sig .tc := ⟨.hbm, 712, rfl⟩
abbrev main_call22_v9 : Ref sig .tc := ⟨.hbm, 713, rfl⟩
abbrev main_call22_v10 : Ref sig .tc := ⟨.hbm, 714, rfl⟩
abbrev main_call22_v11 : Ref sig .tc := ⟨.hbm, 715, rfl⟩
abbrev main_call22_v12 : Ref sig .tc := ⟨.hbm, 716, rfl⟩
abbrev main_call22_v13 : Ref sig .tc := ⟨.hbm, 717, rfl⟩
abbrev main_call22_v14 : Ref sig .tc := ⟨.hbm, 718, rfl⟩
abbrev main_v526 : Ref sig .tc := ⟨.hbm, 719, rfl⟩
abbrev main_v527 : Ref sig .tc := ⟨.hbm, 720, rfl⟩
abbrev main_cst_75 : Ref sig .tc := ⟨.hbm, 721, rfl⟩
abbrev main_v528 : Ref sig .tc := ⟨.hbm, 722, rfl⟩
abbrev main_v529 : Ref sig .tc := ⟨.hbm, 723, rfl⟩
abbrev main_v530 : Ref sig .tc := ⟨.hbm, 724, rfl⟩
abbrev main_v531 : Ref sig .tc := ⟨.hbm, 725, rfl⟩
abbrev main_cst_76 : Ref sig .tc := ⟨.hbm, 726, rfl⟩
abbrev main_v532 : Ref sig .tc := ⟨.hbm, 727, rfl⟩
abbrev main_v533 : Ref sig .tc := ⟨.hbm, 728, rfl⟩
abbrev main_v534 : Ref sig .tc := ⟨.hbm, 729, rfl⟩
abbrev main_v535 : Ref sig .tc := ⟨.hbm, 730, rfl⟩
abbrev main_v536 : Ref sig .tc := ⟨.hbm, 731, rfl⟩
abbrev main_cst_77 : Ref sig .tc := ⟨.hbm, 732, rfl⟩
abbrev main_v537 : Ref sig .tc := ⟨.hbm, 733, rfl⟩
abbrev main_v538 : Ref sig .tc := ⟨.hbm, 734, rfl⟩
abbrev main_c_78 : Ref sig .tc := ⟨.hbm, 735, rfl⟩
abbrev main_v539 : Ref sig .tc := ⟨.hbm, 736, rfl⟩
abbrev main_v540 : Ref sig .tc := ⟨.hbm, 737, rfl⟩
abbrev main_v541 : Ref sig .tc := ⟨.hbm, 738, rfl⟩
abbrev main_v542 : Ref sig .tc := ⟨.hbm, 739, rfl⟩
abbrev main_v543 : Ref sig .tc := ⟨.hbm, 740, rfl⟩
abbrev main_v544 : Ref sig .tc := ⟨.hbm, 741, rfl⟩
abbrev main_v545 : Ref sig .tc := ⟨.hbm, 742, rfl⟩
abbrev main_c_79 : Ref sig .tc := ⟨.hbm, 743, rfl⟩
abbrev main_v546 : Ref sig .tc := ⟨.hbm, 744, rfl⟩
abbrev main_v547 : Ref sig .tc := ⟨.hbm, 745, rfl⟩
abbrev main_c_80 : Ref sig .tc := ⟨.hbm, 746, rfl⟩
abbrev main_v548 : Ref sig .tc := ⟨.hbm, 747, rfl⟩
abbrev main_v549 : Ref sig .tc := ⟨.hbm, 748, rfl⟩
abbrev main_v550 : Ref sig .tc := ⟨.hbm, 749, rfl⟩
abbrev main_c_81 : Ref sig .tc := ⟨.hbm, 750, rfl⟩
abbrev main_v551 : Ref sig .tc := ⟨.hbm, 751, rfl⟩
abbrev main_v552 : Ref sig .tc := ⟨.hbm, 752, rfl⟩
abbrev main_c_82 : Ref sig .tc := ⟨.hbm, 753, rfl⟩
abbrev main_v553 : Ref sig .tc := ⟨.hbm, 754, rfl⟩
abbrev main_v554 : Ref sig .tc := ⟨.hbm, 755, rfl⟩
abbrev main_v555 : Ref sig .tc := ⟨.hbm, 756, rfl⟩
abbrev main_v556 : Ref sig .tc := ⟨.hbm, 757, rfl⟩
abbrev main_v557 : Ref sig .tc := ⟨.hbm, 758, rfl⟩
abbrev main_v558 : Ref sig .tc := ⟨.hbm, 759, rfl⟩
abbrev main_v559 : Ref sig .tc := ⟨.hbm, 760, rfl⟩
abbrev main_v560 : Ref sig .tc := ⟨.hbm, 761, rfl⟩
abbrev main_c_83 : Ref sig .tc := ⟨.hbm, 762, rfl⟩
abbrev main_v561 : Ref sig .tc := ⟨.hbm, 763, rfl⟩
abbrev main_v562 : Ref sig .tc := ⟨.hbm, 764, rfl⟩
abbrev main_v563 : Ref sig .tc := ⟨.hbm, 765, rfl⟩
abbrev main_v564 : Ref sig .tc := ⟨.hbm, 766, rfl⟩
abbrev main_v565 : Ref sig .tc := ⟨.hbm, 767, rfl⟩
abbrev main_v566 : Ref sig .tc := ⟨.hbm, 768, rfl⟩
abbrev main_v567 : Ref sig .tc := ⟨.hbm, 769, rfl⟩
abbrev main_c_84 : Ref sig .tc := ⟨.hbm, 770, rfl⟩
abbrev main_v568 : Ref sig .tc := ⟨.hbm, 771, rfl⟩
abbrev main_v569 : Ref sig .tc := ⟨.hbm, 772, rfl⟩
abbrev main_c_85 : Ref sig .tc := ⟨.hbm, 773, rfl⟩
abbrev main_v570 : Ref sig .tc := ⟨.hbm, 774, rfl⟩
abbrev main_v571 : Ref sig .tc := ⟨.hbm, 775, rfl⟩
abbrev main_v572 : Ref sig .tc := ⟨.hbm, 776, rfl⟩
abbrev main_c_86 : Ref sig .tc := ⟨.hbm, 777, rfl⟩
abbrev main_v573 : Ref sig .tc := ⟨.hbm, 778, rfl⟩
abbrev main_v574 : Ref sig .tc := ⟨.hbm, 779, rfl⟩
abbrev main_c_87 : Ref sig .tc := ⟨.hbm, 780, rfl⟩
abbrev main_v575 : Ref sig .tc := ⟨.hbm, 781, rfl⟩
abbrev main_v576 : Ref sig .tc := ⟨.hbm, 782, rfl⟩
abbrev main_v577 : Ref sig .tc := ⟨.hbm, 783, rfl⟩
abbrev main_v578 : Ref sig .tc := ⟨.hbm, 784, rfl⟩
abbrev main_v579 : Ref sig .tc := ⟨.hbm, 785, rfl⟩
abbrev main_v580 : Ref sig .tc := ⟨.hbm, 786, rfl⟩
abbrev main_v581 : Ref sig .tc := ⟨.hbm, 787, rfl⟩
abbrev main_v582 : Ref sig .tc := ⟨.hbm, 788, rfl⟩
abbrev main_c_88 : Ref sig .tc := ⟨.hbm, 789, rfl⟩
abbrev main_v583 : Ref sig .tc := ⟨.hbm, 790, rfl⟩
abbrev main_v584 : Ref sig .tc := ⟨.hbm, 791, rfl⟩
abbrev main_v585 : Ref sig .tc := ⟨.hbm, 792, rfl⟩
abbrev main_v586 : Ref sig .tc := ⟨.hbm, 793, rfl⟩
abbrev main_v587 : Ref sig .tc := ⟨.hbm, 794, rfl⟩
abbrev main_v588 : Ref sig .tc := ⟨.hbm, 795, rfl⟩
abbrev main_v589 : Ref sig .tc := ⟨.hbm, 796, rfl⟩
abbrev main_c_89 : Ref sig .tc := ⟨.hbm, 797, rfl⟩
abbrev main_v590 : Ref sig .tc := ⟨.hbm, 798, rfl⟩
abbrev main_v591 : Ref sig .tc := ⟨.hbm, 799, rfl⟩
abbrev main_c_90 : Ref sig .tc := ⟨.hbm, 800, rfl⟩
abbrev main_v592 : Ref sig .tc := ⟨.hbm, 801, rfl⟩
abbrev main_v593 : Ref sig .tc := ⟨.hbm, 802, rfl⟩
abbrev main_v594 : Ref sig .tc := ⟨.hbm, 803, rfl⟩
abbrev main_c_91 : Ref sig .tc := ⟨.hbm, 804, rfl⟩
abbrev main_v595 : Ref sig .tc := ⟨.hbm, 805, rfl⟩
abbrev main_v596 : Ref sig .tc := ⟨.hbm, 806, rfl⟩
abbrev main_c_92 : Ref sig .tc := ⟨.hbm, 807, rfl⟩
abbrev main_v597 : Ref sig .tc := ⟨.hbm, 808, rfl⟩
abbrev main_v598 : Ref sig .tc := ⟨.hbm, 809, rfl⟩
abbrev main_v599 : Ref sig .tc := ⟨.hbm, 810, rfl⟩
abbrev main_v600 : Ref sig .tc := ⟨.hbm, 811, rfl⟩
abbrev main_v601 : Ref sig .tc := ⟨.hbm, 812, rfl⟩
abbrev main_v602 : Ref sig .tc := ⟨.hbm, 813, rfl⟩
abbrev main_v603 : Ref sig .tc := ⟨.hbm, 814, rfl⟩
abbrev main_v604 : Ref sig .tc := ⟨.hbm, 815, rfl⟩
abbrev main_c_93 : Ref sig .tc := ⟨.hbm, 816, rfl⟩
abbrev main_v605 : Ref sig .tc := ⟨.hbm, 817, rfl⟩
abbrev main_v606 : Ref sig .tc := ⟨.hbm, 818, rfl⟩
abbrev main_v607 : Ref sig .tc := ⟨.hbm, 819, rfl⟩
abbrev main_v608 : Ref sig .tc := ⟨.hbm, 820, rfl⟩
abbrev main_v609 : Ref sig .tc := ⟨.hbm, 821, rfl⟩
abbrev main_v610 : Ref sig .tc := ⟨.hbm, 822, rfl⟩
abbrev main_v611 : Ref sig .tc := ⟨.hbm, 823, rfl⟩
abbrev main_c_94 : Ref sig .tc := ⟨.hbm, 824, rfl⟩
abbrev main_v612 : Ref sig .tc := ⟨.hbm, 825, rfl⟩
abbrev main_v613 : Ref sig .tc := ⟨.hbm, 826, rfl⟩
abbrev main_c_95 : Ref sig .tc := ⟨.hbm, 827, rfl⟩
abbrev main_v614 : Ref sig .tc := ⟨.hbm, 828, rfl⟩
abbrev main_v615 : Ref sig .tc := ⟨.hbm, 829, rfl⟩
abbrev main_v616 : Ref sig .tc := ⟨.hbm, 830, rfl⟩
abbrev main_c_96 : Ref sig .tc := ⟨.hbm, 831, rfl⟩
abbrev main_v617 : Ref sig .tc := ⟨.hbm, 832, rfl⟩
abbrev main_v618 : Ref sig .tc := ⟨.hbm, 833, rfl⟩
abbrev main_c_97 : Ref sig .tc := ⟨.hbm, 834, rfl⟩
abbrev main_v619 : Ref sig .tc := ⟨.hbm, 835, rfl⟩
abbrev main_v620 : Ref sig .tc := ⟨.hbm, 836, rfl⟩
abbrev main_v621 : Ref sig .tc := ⟨.hbm, 837, rfl⟩
abbrev main_v622 : Ref sig .tc := ⟨.hbm, 838, rfl⟩
abbrev main_v623 : Ref sig .tc := ⟨.hbm, 839, rfl⟩
abbrev main_v624 : Ref sig .tc := ⟨.hbm, 840, rfl⟩
abbrev main_v625 : Ref sig .tc := ⟨.hbm, 841, rfl⟩
abbrev main_v626 : Ref sig .tc := ⟨.hbm, 842, rfl⟩
abbrev main_cst_98 : Ref sig .tc := ⟨.hbm, 843, rfl⟩
abbrev main_v627 : Ref sig .tc := ⟨.hbm, 844, rfl⟩
abbrev main_v628 : Ref sig .tc := ⟨.hbm, 845, rfl⟩
abbrev main_cst_99 : Ref sig .tc := ⟨.hbm, 846, rfl⟩
abbrev main_v629 : Ref sig .tc := ⟨.hbm, 847, rfl⟩
abbrev main_v630 : Ref sig .tc := ⟨.hbm, 848, rfl⟩
abbrev main_cst_100 : Ref sig .tc := ⟨.hbm, 849, rfl⟩
abbrev main_v631 : Ref sig .tc := ⟨.hbm, 850, rfl⟩
abbrev main_v632 : Ref sig .tc := ⟨.hbm, 851, rfl⟩
abbrev main_cst_101 : Ref sig .tc := ⟨.hbm, 852, rfl⟩
abbrev main_v633 : Ref sig .tc := ⟨.hbm, 853, rfl⟩
abbrev main_cst_102 : Ref sig .tc := ⟨.hbm, 854, rfl⟩
abbrev main_v634 : Ref sig .tc := ⟨.hbm, 855, rfl⟩
abbrev main_v635 : Ref sig .tc := ⟨.hbm, 856, rfl⟩
abbrev main_cst_103 : Ref sig .tc := ⟨.hbm, 857, rfl⟩
abbrev main_v636 : Ref sig .tc := ⟨.hbm, 858, rfl⟩
abbrev main_v637 : Ref sig .tc := ⟨.hbm, 859, rfl⟩
abbrev main_cst_104 : Ref sig .tc := ⟨.hbm, 860, rfl⟩
abbrev main_v638 : Ref sig .tc := ⟨.hbm, 861, rfl⟩
abbrev main_v639 : Ref sig .tc := ⟨.hbm, 862, rfl⟩
abbrev main_v640 : Ref sig .tc := ⟨.hbm, 863, rfl⟩
abbrev main_v641 : Ref sig .tc := ⟨.hbm, 864, rfl⟩

abbrev nD : Nat := 1
abbrev τ : Topo := Topo.v7x

variable {F : FTy → Type} [FloatOps F]
-- ==== Proof.Reals.lean ====
/-  The operations of the two programs at real arguments: every one gives a real again, so that a value of either
    program can be computed as a real number. The literals of the programs, the three named angles, and the bins
    as words. -/
module

public import Idealize.ShloMosaic.PureOps.Ideal.Laws
public import Idealize.ShloMosaic.Lib.ValueIdx

@[expose] public section

noncomputable section

namespace Cert.Hog

open Idealize.ShloMosaic

/-- The real number that a word denotes as a 32-bit float. -/
def lit (b : BitVec 32) : ℝ := (Ideal.ofBits .f32 b).toReal

/-- A word whose exponent is not all ones denotes a real. -/
theorem ofBits_real (b : BitVec 32) (h : b.extractLsb' 23 8 ≠ 255#8) : Ideal.ofBits .f32 b = ((lit b : ℝ) : EReal) := by
  have h' : (b.extractLsb' 23 8).toNat ≠ 255 := fun e => h (by apply BitVec.eq_of_toNat_eq; rw [e]; rfl)
  unfold lit
  simp only [Ideal.ofBits, Ideal.ieee]
  rw [if_neg (by simpa using h')]
  split <;> rw [EReal.toReal_coe]

/-- The word of the literal 1. -/
theorem ofBits_one : Ideal.ofBits .f32 0x3F800000#32 = ((1 : ℝ) : EReal) := by
  simp [Ideal.ofBits, Ideal.ieee, -EReal.coe_mul]; norm_num

/-- The word of the literal -1. -/
theorem ofBits_minus_one : Ideal.ofBits .f32 0xBF800000#32 = ((-1 : ℝ) : EReal) := by
  simp [Ideal.ofBits, Ideal.ieee, -EReal.coe_mul]; norm_num

/-- The word of the literal 0. -/
theorem ofBits_zero : Ideal.ofBits .f32 0x00000000#32 = ((0 : ℝ) : EReal) := by
  simp [Ideal.ofBits, Ideal.ieee]

/-- The word of the literal 8. -/
theorem ofBits_eight : Ideal.ofBits .f32 0x41000000#32 = ((8 : ℝ) : EReal) := by
  simp [Ideal.ofBits, Ideal.ieee, -EReal.coe_mul]; norm_num

/-- The small number added to a magnitude before the division, 2^(-52). -/
def eps : ℝ := (2 : ℝ) ^ (-52 : ℤ)

theorem eps_pos : 0 < eps := by unfold eps; positivity

theorem ofBits_eps : Ideal.ofBits .f32 0x25800000#32 = ((eps : ℝ) : EReal) := by
  unfold eps
  simp [Ideal.ofBits, Ideal.ieee, -EReal.coe_mul]; norm_num

/-- The bound at which the ratio is clipped, just below 1. -/
def edge : ℝ := 16777199 / 16777216

theorem ofBits_edge : Ideal.ofBits .f32 0x3F7FFFEF#32 = ((edge : ℝ) : EReal) := by
  unfold edge
  simp [Ideal.ofBits, Ideal.ieee, -EReal.coe_mul]; norm_num

theorem ofBits_minus_edge : Ideal.ofBits .f32 0xBF7FFFEF#32 = ((-edge : ℝ) : EReal) := by
  unfold edge
  simp [Ideal.ofBits, Ideal.ieee, -EReal.coe_mul]; norm_num

/-- The programs' literal for the number pi, a float. -/
def piLit : ℝ := 13176795 / 4194304

theorem ofBits_pi : Ideal.ofBits .f32 0x40490FDB#32 = ((piLit : ℝ) : EReal) := by
  unfold piLit
  simp [Ideal.ofBits, Ideal.ieee, -EReal.coe_mul]; norm_num

theorem ofBits_half_pi : Ideal.ofBits .f32 0x3FC90FDB#32 = ((1 / 2 * piLit : ℝ) : EReal) := by
  unfold piLit
  simp [Ideal.ofBits, Ideal.ieee, -EReal.coe_mul]; norm_num

/-! ### Arithmetic at real arguments -/

theorem add_real (a b : ℝ) : (a : EReal) + (b : EReal) = ((a + b : ℝ) : EReal) := (EReal.coe_add a b).symm
theorem sub_real (a b : ℝ) : (a : EReal) - (b : EReal) = ((a - b : ℝ) : EReal) := (EReal.coe_sub a b).symm
theorem mul_real (a b : ℝ) : (a : EReal) * (b : EReal) = ((a * b : ℝ) : EReal) := (EReal.coe_mul a b).symm
theorem neg_real (a : ℝ) : -(a : EReal) = ((-a : ℝ) : EReal) := (EReal.coe_neg a).symm
theorem max_real (a b : ℝ) : max (a : EReal) (b : EReal) = ((max a b : ℝ) : EReal) :=
  (EReal.coe_strictMono.monotone.map_max).symm
theorem min_real (a b : ℝ) : min (a : EReal) (b : EReal) = ((min a b : ℝ) : EReal) :=
  (EReal.coe_strictMono.monotone.map_min).symm
theorem abs_real (a : ℝ) : max (a : EReal) (-(a : EReal)) = ((|a| : ℝ) : EReal) := by
  rw [neg_real, max_real]; rfl
theorem div_real (a b : ℝ) (h : b ≠ 0) : Ideal.div (a : EReal) (b : EReal) = ((a / b : ℝ) : EReal) := by
  rw [Ideal.div_coe h, mul_real, mul_one_div]
theorem sqrt_real (a : ℝ) (h : 0 ≤ a) : Ideal.sqrt (a : EReal) = ((Real.sqrt a : ℝ) : EReal) := by
  rw [Ideal.sqrt_coe, if_neg (not_lt.mpr h)]
theorem floor_real (a : ℝ) : Ideal.liftRound Int.floor (a : EReal) = (((⌊a⌋ : ℤ) : ℝ) : EReal) := rfl
theorem ceil_real (a : ℝ) : Ideal.liftRound Int.ceil (a : EReal) = (((⌈a⌉ : ℤ) : ℝ) : EReal) := rfl

/-- A selection between two reals is a real. -/
theorem ite_real (p : Prop) [Decidable p] (u v : ℝ) :
    (if p then (u : EReal) else (v : EReal)) = ((if p then u else v : ℝ) : EReal) := by split <;> rfl

theorem select_decide (p : Prop) [Decidable p] {α : Type} (u v : α) :
    Scalar.select (BitVec.ofBool (decide p)) u v = if p then u else v := by
  by_cases h : p <;> simp [Scalar.select, h]

theorem select_gt (a b : ℝ) {α : Type} (u v : α) :
    Scalar.select (Ideal.cmp .ogt (a : EReal) (b : EReal)) u v = if b < a then u else v := by
  simp only [Ideal.cmp, select_decide, EReal.coe_lt_coe_iff]
theorem select_lt (a b : ℝ) {α : Type} (u v : α) :
    Scalar.select (Ideal.cmp .olt (a : EReal) (b : EReal)) u v = if a < b then u else v := by
  simp only [Ideal.cmp, select_decide, EReal.coe_lt_coe_iff]
theorem select_ge (a b : ℝ) {α : Type} (u v : α) :
    Scalar.select (Ideal.cmp .oge (a : EReal) (b : EReal)) u v = if b ≤ a then u else v := by
  simp only [Ideal.cmp, select_decide, EReal.coe_le_coe_iff]
theorem select_eq (a b : ℝ) {α : Type} (u v : α) :
    Scalar.select (Ideal.cmp .oeq (a : EReal) (b : EReal)) u v = if a = b then u else v := by
  simp only [Ideal.cmp, select_decide, EReal.coe_eq_coe_iff]

/-- A word comparison's selection. -/
theorem select_word (a b : BitVec 32) {α : Type} (u v : α) :
    Scalar.select (IntOp.cmpi .eq a b) u v = if a = b then u else v := by
  have e : IntOp.cmpi .eq a b = BitVec.ofBool (decide (a = b)) := by
    unfold IntOp.cmpi; congr 1
  rw [e, select_decide]

/-! ### The angle of a gradient -/

/-- The polynomial that the programs take as the arctangent on [0, 1], as the reference sums it. -/
def arctanUnit (t : ℝ) : ℝ :=
  1 * t + lit 0xBEAAAA9D#32 * (t * (t * t)) + lit 0x3E4CC8F4#32 * (t * (t * t) * (t * t))
    + lit 0xBE12128F#32 * (t * (t * t) * (t * t) * (t * t))
    + lit 0x3DE06D64#32 * (t * (t * t) * (t * t) * (t * t) * (t * t))
    + lit 0xBDAC9918#32 * (t * (t * t) * (t * t) * (t * t) * (t * t) * (t * t))
    + lit 0x3D6F71A1#32 * (t * (t * t) * (t * t) * (t * t) * (t * t) * (t * t) * (t * t))
    + lit 0xBD020D05#32 * (t * (t * t) * (t * t) * (t * t) * (t * t) * (t * t) * (t * t) * (t * t))
    + lit 0x3C38724E#32 * (t * (t * t) * (t * t) * (t * t) * (t * t) * (t * t) * (t * t) * (t * t) * (t * t))
    + lit 0xBAF61939#32 * (t * (t * t) * (t * t) * (t * t) * (t * t) * (t * t) * (t * t) * (t * t) * (t * t) * (t * t))

/-- The same polynomial by nested multiplication, as the kernel evaluates it. -/
theorem arctanUnit_nested (t : ℝ) :
    t * (((((((((lit 0xBAF61939#32 * (t * t) + lit 0x3C38724E#32) * (t * t) + lit 0xBD020D05#32) * (t * t)
      + lit 0x3D6F71A1#32) * (t * t) + lit 0xBDAC9918#32) * (t * t) + lit 0x3DE06D64#32) * (t * t)
      + lit 0xBE12128F#32) * (t * t) + lit 0x3E4CC8F4#32) * (t * t) + lit 0xBEAAAA9D#32) * (t * t) + 1)
      = arctanUnit t := by
  unfold arctanUnit; ring

/-- The angle of the point (x, y), by octants. -/
def angle (y x : ℝ) : ℝ :=
  let first := if |x| < |y| then 1 / 2 * piLit - arctanUnit (|x| / (if |y| = 0 then 1 else |y|))
    else arctanUnit (|y| / (if |x| = 0 then 1 else |x|))
  let upper := if x < 0 then piLit - first else first
  if y < 0 then -upper else upper

/-- The kernel's way to the same angle: the smaller of the two sizes over the larger one, and one polynomial. -/
theorem angle_ratio (y x : ℝ) :
    (let a := min |x| |y| / (if max |x| |y| = 0 then 1 else max |x| |y|)
     let t := arctanUnit a
     let t := if |x| < |y| then 1 / 2 * piLit - t else t
     let t := if x < 0 then piLit - t else t
     if y < 0 then 0 - t else t) = angle y x := by
  unfold angle
  by_cases h : |x| < |y|
  · simp only [h, if_true, min_eq_left h.le, max_eq_right h.le, zero_sub]
  · have h' : |y| ≤ |x| := not_lt.mp h
    simp only [h, if_false, min_eq_right h', max_eq_left h', zero_sub]

/-! ### The bins -/

/-- The word of a float rounded to an integer. -/
def word (z : ℝ) : BitVec 32 := Ideal.fptosi 32 (z : EReal)

/-- The fraction that an angle measured in bins leaves over, toward zero. -/
def part (r : ℝ) : ℝ := r - (if 0 ≤ r then (⌊r⌋ : ℝ) else (⌈r⌉ : ℝ))

/-- The lower and the upper bin of an angle measured in bins, out of the eight. -/
def lower (r : ℝ) : BitVec 32 := word (⌊r⌋ : ℝ) &&& 7#32
def upper (r : ℝ) : BitVec 32 := word (⌈r⌉ : ℝ) &&& 7#32

/-- What an angle measured in bins gives to the bin q. -/
def share (q : BitVec 32) (r : ℝ) : ℝ :=
  (if q = lower r then |part r| else 0) + (if q = upper r then |1 - part r| else 0)

/-- The size of a gradient. -/
def size (a b c : ℝ) : ℝ :=
  if 0 < a * a + b * b + c * c then Real.sqrt (if 0 < a * a + b * b + c * c then a * a + b * b + c * c else 1) else 0

theorem size_nonneg (a b c : ℝ) : 0 ≤ size a b c := by
  unfold size; split
  · exact Real.sqrt_nonneg _
  · exact le_refl 0

/-- The angle in the plane of the last two axes, in bins. -/
def theta (a b c : ℝ) : ℝ :=
  (if 0 < a * a + b * b + c * c then
    angle (if 0 < a * a + b * b + c * c then b else 0) (if 0 < a * a + b * b + c * c then c else 1) else 0)
    * (8 * (piLit)⁻¹)

/-- The cosine of the angle from the first axis, clipped. -/
def ratio (a b c : ℝ) : ℝ := min edge (max (-edge) (a / (size a b c + eps)))

theorem ratio_sq (a b c : ℝ) : 0 ≤ (1 - ratio a b c) * (1 + ratio a b c) := by
  have h1 : ratio a b c ≤ edge := min_le_left _ _
  have h2 : -edge ≤ ratio a b c := le_min (by unfold edge; norm_num) (le_max_left _ _)
  have h3 : edge ≤ 1 := by unfold edge; norm_num
  exact mul_nonneg (by linarith) (by linarith)

/-- The angle from the first axis, in bins. -/
def phi (a b c : ℝ) : ℝ :=
  angle (Real.sqrt ((1 - ratio a b c) * (1 + ratio a b c))) (ratio a b c) * (8 * (piLit)⁻¹)

/-- What a gradient (a, b, c) gives to the bin (p, q). -/
def bin (p q : BitVec 32) (a b c : ℝ) : ℝ := share p (theta a b c) * size a b c * share q (phi a b c)

/-- A gradient that is zero gives nothing. -/
theorem bin_zero (p q : BitVec 32) : bin p q 0 0 0 = 0 := by
  simp [bin, size]

end Cert.Hog

end
-- ==== Proof.KernelAngles.lean ====
/-  The kernel's arithmetic at one voxel: its angle, its bins and its shares are those of Reals.lean wherever the
    gradient is real. -/
module

public import proofs.«01_k».proof.Proof.Gen.KernelIdeal.Skeleton
public import proofs.«01_k».proof.Proof.Reals
public import Idealize.ShloMosaic.Lib.Pointwise

@[expose] public section

set_option maxRecDepth 16384

noncomputable section

namespace Cert.Hog.Kernel

open Idealize.ShloMosaic Cert.KernelIdeal Cert.KernelIdeal.Gen

theorem named_bins :
    (Named.named Cert.KernelIdeal.κ "bins_per_radian" 0x4022F983#32 : Ideal .f32) = ((8 * (piLit)⁻¹ : ℝ) : EReal) := by
  refine (IdealRules.named_const.ideal_named_scalar _ _ _ _ rfl).trans ?_
  unfold piLit; norm_num

section Angle

variable (v34 v36 v37 v38 v45 v46 : FVec Ideal S78x78 .f32) (j : S78x78.Idx) (y x a : ℝ)
  (h34 : v34 j = (y : EReal)) (h36 : v36 j = (x : EReal)) (h37 : v37 j = ((|x| : ℝ) : EReal))
  (h38 : v38 j = ((|y| : ℝ) : EReal)) (h45 : v45 j = (a : EReal)) (h46 : v46 j = ((a * a : ℝ) : EReal))
  (ha : a = min |x| |y| / (if max |x| |y| = 0 then 1 else max |x| |y|))

include h34 h36 h37 h38 h45 h46 ha in
/-- The kernel's first arctangent, of two reals whose sizes and whose ratio are given. -/
theorem pay20_real : k0_pay20 v34 v36 v37 v38 v45 v46 j = ((angle y x : ℝ) : EReal) := by
  have e := angle_ratio y x
  dsimp only at e
  rw [← ha] at e
  simp only [k0_pay20, ValueIdx.mulf_apply, ValueIdx.addf_apply, ValueIdx.subf_apply, ValueIdx.broadcast_apply,
    ValueIdx.select_apply, ValueIdx.cmpf_apply, Ideal.cmpf_def, Scalar.ofBits, Ideal.ofBits_def,
    ofBits_one, ofBits_zero, ofBits_real 0xBEAAAA9D#32 (by decide), ofBits_real 0x3E4CC8F4#32 (by decide),
    ofBits_real 0xBE12128F#32 (by decide), ofBits_real 0x3DE06D64#32 (by decide), ofBits_real 0xBDAC9918#32 (by decide),
    ofBits_real 0x3D6F71A1#32 (by decide), ofBits_real 0xBD020D05#32 (by decide), ofBits_real 0x3C38724E#32 (by decide),
    ofBits_real 0xBAF61939#32 (by decide), ofBits_pi, ofBits_half_pi,
    h34, h36, h37, h38, h45, h46, add_real, mul_real, sub_real, select_gt, select_lt, ite_real, arctanUnit_nested, e]

include h34 h36 h37 h38 h45 h46 ha in
/-- The kernel's second arctangent, cut in two by the program, and in bins. -/
theorem pay32_real (v10 v32 : FVec Ideal S78x78 .f32) (h98 : k0_pay28 v10 v32 j = ((a * a : ℝ) : EReal)) :
    k0_pay32 v36 v34 v37 v38 v45 v46 (k0_pay29 v10 v32) k0_pay30 j = ((angle y x * (8 * (piLit)⁻¹) : ℝ) : EReal) := by
  have e := angle_ratio y x
  dsimp only at e
  rw [← ha] at e
  simp only [k0_pay32, k0_pay29, k0_pay30, ValueIdx.mulf_apply, ValueIdx.addf_apply, ValueIdx.subf_apply, ValueIdx.broadcast_apply,
    ValueIdx.select_apply, ValueIdx.cmpf_apply, Ideal.cmpf_def, Scalar.ofBits, Ideal.ofBits_def,
    ofBits_one, ofBits_zero, ofBits_real 0xBEAAAA9D#32 (by decide), ofBits_real 0x3E4CC8F4#32 (by decide),
    ofBits_real 0xBE12128F#32 (by decide), ofBits_real 0x3DE06D64#32 (by decide), ofBits_real 0xBDAC9918#32 (by decide),
    ofBits_real 0x3D6F71A1#32 (by decide), ofBits_real 0xBD020D05#32 (by decide), ofBits_real 0x3C38724E#32 (by decide),
    ofBits_real 0xBAF61939#32 (by decide), ofBits_pi, ofBits_half_pi, named_bins,
    h34, h36, h37, h38, h45, h46, h98, add_real, mul_real, sub_real, select_gt, select_lt, ite_real, arctanUnit_nested, e]

end Angle

section Voxel

variable (v4 : Vec Ideal S3x80x80 .f32) (j : S78x78.Idx) (a b c : ℝ)
  (ha : k0_pay8 v4 j = (a : EReal)) (hb : k0_pay9 v4 j = (b : EReal)) (hc : k0_pay10 v4 j = (c : EReal))

include ha hb hc

theorem pay11_real : k0_pay11 v4 j = ((a * a + b * b + c * c : ℝ) : EReal) := by
  simp only [k0_pay11, ValueIdx.mulf_apply, ValueIdx.addf_apply, ha, hb, hc, mul_real, add_real]

theorem pay12_real : k0_pay12 v4 j = Ideal.cmp .ogt ((a * a + b * b + c * c : ℝ) : EReal) ((0 : ℝ) : EReal) := by
  simp only [k0_pay12, ValueIdx.cmpf_apply, Ideal.cmpf_def, ValueIdx.broadcast_apply, Scalar.ofBits, Ideal.ofBits_def,
    ofBits_zero, pay11_real v4 j a b c ha hb hc]

theorem pay13_real : k0_pay13 v4 j = ((size a b c : ℝ) : EReal) := by
  have h : (0 : ℝ) ≤ (if 0 < a * a + b * b + c * c then a * a + b * b + c * c else 1) := by
    split
    · exact le_of_lt ‹_›
    · norm_num
  simp only [k0_pay13, ValueIdx.select_apply, pay12_real v4 j a b c ha hb hc, pay11_real v4 j a b c ha hb hc, sqrt_apply,
    Ideal.sqrt_def, ValueIdx.broadcast_apply, Scalar.ofBits, Ideal.ofBits_def, ofBits_zero, ofBits_one, select_gt, ite_real,
    sqrt_real _ h, size]

theorem pay14_real : k0_pay14 v4 j = ((if 0 < a * a + b * b + c * c then b else 0 : ℝ) : EReal) := by
  simp only [k0_pay14, ValueIdx.select_apply, pay12_real v4 j a b c ha hb hc, hb,
    ValueIdx.broadcast_apply, Scalar.ofBits, Ideal.ofBits_def, ofBits_zero, select_gt, ite_real]

theorem pay15_real : k0_pay15 v4 j = ((if 0 < a * a + b * b + c * c then c else 1 : ℝ) : EReal) := by
  simp only [k0_pay15, ValueIdx.select_apply, pay12_real v4 j a b c ha hb hc, hc,
    ValueIdx.broadcast_apply, Scalar.ofBits, Ideal.ofBits_def, ofBits_one, select_gt, ite_real]

/-- The kernel's angle in the plane of the last two axes, in bins. -/
theorem theta_real :
    k0_pay31 (k0_pay22 (k0_pay12 v4) (k0_pay20 (k0_pay14 v4) (k0_pay15 v4) (k0_pay16 v4) (k0_pay17 v4) (k0_pay18 v4)
      (k0_pay19 v4)) k0_pay21) j = ((theta a b c : ℝ) : EReal) := by
  have h14 := pay14_real v4 j a b c ha hb hc
  have h15 := pay15_real v4 j a b c ha hb hc
  unfold theta
  generalize hy : (if 0 < a * a + b * b + c * c then b else 0 : ℝ) = y at h14 ⊢
  generalize hx : (if 0 < a * a + b * b + c * c then c else 1 : ℝ) = x at h15 ⊢
  have h16 : k0_pay16 v4 j = ((|x| : ℝ) : EReal) := by
    simp only [k0_pay16, absf_apply, Ideal.absf_def, h15, abs_real]
  have h17 : k0_pay17 v4 j = ((|y| : ℝ) : EReal) := by
    simp only [k0_pay17, absf_apply, Ideal.absf_def, h14, abs_real]
  have hd : (if max |x| |y| = 0 then 1 else max |x| |y|) ≠ 0 := by
    split
    · norm_num
    · assumption
  have h18 : k0_pay18 v4 j = ((min |x| |y| / (if max |x| |y| = 0 then 1 else max |x| |y|) : ℝ) : EReal) := by
    simp only [k0_pay18, ValueIdx.divf_apply, ValueIdx.minimumf_apply, ValueIdx.maximumf_apply, ValueIdx.select_apply,
      ValueIdx.cmpf_apply, Ideal.cmpf_def, ValueIdx.broadcast_apply, Scalar.ofBits, Ideal.ofBits_def, ofBits_zero, ofBits_one,
      h16, h17, max_real, min_real, select_eq, ite_real, div_real _ _ hd]
  have h19 : k0_pay19 v4 j = (((min |x| |y| / (if max |x| |y| = 0 then 1 else max |x| |y|)) * (min |x| |y| / (if max |x| |y| = 0 then 1 else max |x| |y|)) : ℝ) : EReal) := by
    simp only [k0_pay19, ValueIdx.mulf_apply, h18, mul_real]
  have h20 := pay20_real _ _ _ _ _ _ j y x _ h14 h15 h16 h17 h18 h19 rfl
  simp only [k0_pay31, k0_pay22, k0_pay21, ValueIdx.mulf_apply, ValueIdx.select_apply, ValueIdx.broadcast_apply,
    Scalar.ofBits, Ideal.ofBits_def, ofBits_zero, named_bins, pay12_real v4 j a b c ha hb hc, h20, select_gt, ite_real,
    mul_real]

/-- The kernel's cosine of the angle from the first axis. -/
theorem pay23_real : k0_pay23 (k0_pay8 v4) (k0_pay13 v4) j = ((ratio a b c : ℝ) : EReal) := by
  have h : size a b c + eps ≠ 0 := by have := size_nonneg a b c; have := eps_pos; linarith
  simp only [k0_pay23, ValueIdx.divf_apply, ValueIdx.addf_apply, ValueIdx.minimumf_apply, ValueIdx.maximumf_apply,
    ValueIdx.broadcast_apply, Scalar.ofBits, Ideal.ofBits_def, ofBits_eps, ofBits_edge, ofBits_minus_edge, ha,
    pay13_real v4 j a b c ha hb hc, add_real, div_real _ _ h, max_real, min_real, ratio]

/-- The kernel's angle from the first axis, in bins. -/
theorem phi_real :
    k0_pay32 (k0_pay23 (k0_pay8 v4) (k0_pay13 v4)) (k0_pay24 (k0_pay8 v4) (k0_pay13 v4)) (k0_pay25 (k0_pay8 v4) (k0_pay13 v4))
      (k0_pay26 (k0_pay8 v4) (k0_pay13 v4)) (k0_pay27 (k0_pay8 v4) (k0_pay13 v4)) (k0_pay28 (k0_pay8 v4) (k0_pay13 v4))
      (k0_pay29 (k0_pay8 v4) (k0_pay13 v4)) k0_pay30 j = ((phi a b c : ℝ) : EReal) := by
  have h23 := pay23_real v4 j a b c ha hb hc
  have hs := ratio_sq a b c
  unfold phi
  generalize ratio a b c = x at h23 hs ⊢
  have h24 : k0_pay24 (k0_pay8 v4) (k0_pay13 v4) j = ((Real.sqrt ((1 - x) * (1 + x)) : ℝ) : EReal) := by
    simp only [k0_pay24, sqrt_apply, Ideal.sqrt_def, ValueIdx.mulf_apply, ValueIdx.subf_apply, ValueIdx.addf_apply,
      ValueIdx.broadcast_apply, Scalar.ofBits, Ideal.ofBits_def, ofBits_one, h23, sub_real, add_real, mul_real, sqrt_real _ hs]
  generalize Real.sqrt ((1 - x) * (1 + x)) = y at h24 ⊢
  have h25 : k0_pay25 (k0_pay8 v4) (k0_pay13 v4) j = ((|x| : ℝ) : EReal) := by
    simp only [k0_pay25, absf_apply, Ideal.absf_def, h23, abs_real]
  have h26 : k0_pay26 (k0_pay8 v4) (k0_pay13 v4) j = ((|y| : ℝ) : EReal) := by
    simp only [k0_pay26, absf_apply, Ideal.absf_def, h24, abs_real]
  have hd : (if max |x| |y| = 0 then 1 else max |x| |y|) ≠ 0 := by
    split
    · norm_num
    · assumption
  have h27 : k0_pay27 (k0_pay8 v4) (k0_pay13 v4) j = ((min |x| |y| / (if max |x| |y| = 0 then 1 else max |x| |y|) : ℝ) : EReal) := by
    simp only [k0_pay27, ValueIdx.divf_apply, ValueIdx.minimumf_apply, ValueIdx.maximumf_apply, ValueIdx.select_apply,
      ValueIdx.cmpf_apply, Ideal.cmpf_def, ValueIdx.broadcast_apply, Scalar.ofBits, Ideal.ofBits_def, ofBits_zero, ofBits_one,
      h25, h26, max_real, min_real, select_eq, ite_real, div_real _ _ hd]
  have h28 : k0_pay28 (k0_pay8 v4) (k0_pay13 v4) j = (((min |x| |y| / (if max |x| |y| = 0 then 1 else max |x| |y|)) * (min |x| |y| / (if max |x| |y| = 0 then 1 else max |x| |y|)) : ℝ) : EReal) := by
    simp only [k0_pay28, ValueIdx.mulf_apply, h27, mul_real]
  exact pay32_real _ _ _ _ _ _ j y x _ h24 h23 h25 h26 h27 h28 rfl _ _ h28

end Voxel

section Shares

/-- The kernel's shares of the eight bins of the first angle, times the size. -/
theorem pay38_real (v32 v91 : FVec Ideal S78x78 .f32) (q : Fin 8) (h w : Fin 78) (s t : ℝ)
    (hs : v32 (ix2 h w) = (s : EReal)) (ht : k0_pay31 v91 (ix2 h w) = (t : EReal)) :
    k0_pay38 v32 (k0_pay33 v91) (k0_pay35 v91) (k0_pay36 v91) (ix3 q h w)
      = ((share (BitVec.ofNat 32 q) t * s : ℝ) : EReal) := by
  have h33 : k0_pay33 v91 (ix2 h w) = ((part t : ℝ) : EReal) := by
    simp only [k0_pay33, ValueIdx.subf_apply, ValueIdx.select_apply, ValueIdx.cmpf_apply, Ideal.cmpf_def, floor_apply, ceil_apply,
      Ideal.floor_def, Ideal.ceil_def, ValueIdx.broadcast_apply, Scalar.ofBits, Ideal.ofBits_def, ofBits_zero, ht, floor_real,
      ceil_real, select_ge, ite_real, sub_real, part]
  have h35 : k0_pay35 v91 (ix2 h w) = lower t := by
    simp only [k0_pay35, andi_apply, fptosi_apply, floor_apply, Ideal.floor_def, ht, floor_real, ValueIdx.broadcast_apply]
    rfl
  have h36 : k0_pay36 v91 (ix2 h w) = upper t := by
    simp only [k0_pay36, andi_apply, fptosi_apply, ceil_apply, Ideal.ceil_def, ht, ceil_real, ValueIdx.broadcast_apply]
    rfl
  have one : (1 : EReal) = ((1 : ℝ) : EReal) := rfl
  have zero : (0 : EReal) = ((0 : ℝ) : EReal) := rfl
  pointwise [k0_pay38]
  simp only [h33, h35, h36, hs, select_word, Ideal.absf_def, one, zero, sub_real, abs_real, ite_real, add_real, mul_real, share]

/-- The kernel's shares of the eight bins of the second angle. -/
theorem pay40_real (v161 v182 : FVec Ideal S78x78 .f32) (v173 : FVec Ideal S78x78 .f32) (p : Fin 8) (h w : Fin 78) (t : ℝ)
    (ht : v161 (ix2 h w) = (t : EReal)) (hp : v173 (ix2 h w) = ((part t : ℝ) : EReal))
    (hf : v182 (ix2 h w) = ((⌊t⌋ : ℝ) : EReal)) :
    k0_pay39 v173 v182 (ix3 p h w) + k0_pay40 v161 v173 (ix3 p h w)
      = ((share (BitVec.ofNat 32 p) t : ℝ) : EReal) := by
  have one : (1 : EReal) = ((1 : ℝ) : EReal) := rfl
  have zero : (0 : EReal) = ((0 : ℝ) : EReal) := rfl
  have hl : IntOp.andi (FloatOps.fptosi 32 (v182 (ix2 h w))) 7#32 = lower t := by rw [hf]; rfl
  have hu : IntOp.andi (FloatOps.fptosi (F := Ideal) (φ := .f32) 32 (Ideal.liftRound Int.ceil (v161 (ix2 h w)))) 7#32 = upper t := by
    rw [ht, ceil_real]; rfl
  pointwise [k0_pay39, k0_pay40]
  simp only [hp, hl, hu, select_word, Ideal.absf_def, one, zero, sub_real, abs_real, ite_real, add_real, mul_real, share]

end Shares

end Cert.Hog.Kernel

end
-- ==== Proof.Mean.lean ====
/-  The result over the reals. Both programs compute one real array: every voxel gives four shares of its magnitude to
    the 64 bins of directions; in each bin, the result is the mean of the shares over the box around the voxel. -/
module

public import proofs.«01_k».proof.Proof.Reals
public import Idealize.ShloMosaic.Lib.Pipeline.ValueKit
public import Idealize.ShloMosaic.Lib.KernelVsHost

@[expose] public section

set_option maxRecDepth 16384

noncomputable section

namespace Cert.Hog

open Idealize.ShloMosaic

/-- The volume with zeros around it: the volume's first voxel is at 8, 8, 8. -/
def around (x : (⟨3, ![64, 64, 64]⟩ : Shape).Idx → EReal) (i j k : ℕ) : ℝ :=
  if h : (8 ≤ i ∧ i < 72) ∧ (8 ≤ j ∧ j < 72) ∧ (8 ≤ k ∧ k < 72) then
    (x (ix3 ⟨i - 8, by omega⟩ ⟨j - 8, by omega⟩ ⟨k - 8, by omega⟩)).toReal
  else 0

/-- The central differences along the three axes. -/
def slopeA (x : (⟨3, ![64, 64, 64]⟩ : Shape).Idx → EReal) (d h w : ℕ) : ℝ :=
  around x (d + 2) (h + 1) (w + 1) - around x d (h + 1) (w + 1)
@[inherit_doc slopeA] def slopeB (x : (⟨3, ![64, 64, 64]⟩ : Shape).Idx → EReal) (d h w : ℕ) : ℝ :=
  around x (d + 1) (h + 2) (w + 1) - around x (d + 1) h (w + 1)
@[inherit_doc slopeA] def slopeC (x : (⟨3, ![64, 64, 64]⟩ : Shape).Idx → EReal) (d h w : ℕ) : ℝ :=
  around x (d + 1) (h + 1) (w + 2) - around x (d + 1) (h + 1) w

/-- What a voxel gives to a bin. -/
def vote (x : (⟨3, ![64, 64, 64]⟩ : Shape).Idx → EReal) (b d h w : ℕ) : ℝ :=
  bin (BitVec.ofNat 32 (b / 8)) (BitVec.ofNat 32 (b % 8)) (slopeA x d h w) (slopeB x d h w) (slopeC x d h w)

/-- Whether two positions of an axis are at most 7 apart. -/
def near (a b : ℕ) : ℝ := if a ≤ b + 7 ∧ b ≤ a + 7 then 1 else 0

/-- How many positions of an axis of 78 are near to a position. -/
def count (n : ℕ) : ℕ := min n 7 + min (77 - n) 7 + 1

theorem count_pos (n : ℕ) : (count n : ℝ) ≠ 0 := by unfold count; positivity

/-- The mean of what the voxels of the box around a voxel give to a bin. -/
def mean (x : (⟨3, ![64, 64, 64]⟩ : Shape).Idx → EReal) (b d h w : ℕ) : ℝ :=
  (∑ d' : Fin 78, ∑ h' : Fin 78, ∑ w' : Fin 78, near d' d * near h' h * near w' w * vote x b d' h' w')
    / (count d * count h * count w)

theorem around_zero (x : (⟨3, ![64, 64, 64]⟩ : Shape).Idx → EReal) (i j k : ℕ) (hi : 72 ≤ i) : around x i j k = 0 :=
  dif_neg (by omega)

theorem vote_zero (x : (⟨3, ![64, 64, 64]⟩ : Shape).Idx → EReal) (b d h w : ℕ) (hd : 78 ≤ d) : vote x b d h w = 0 := by
  unfold vote slopeA slopeB slopeC
  simp only [around_zero x _ _ _ (by omega : 72 ≤ d + 2), around_zero x _ _ _ (by omega : 72 ≤ d + 1),
    around_zero x _ _ _ (by omega : 72 ≤ d), sub_zero]
  exact bin_zero _ _

/-- A volume of reals padded with a zero: eight voxels before it along each axis, and at least as far as the last
    voxel asked for after it. -/
theorem pad_around {n : ℕ} (hi : Fin 3 → ℕ) (x : (⟨3, ![64, 64, 64]⟩ : Shape).Idx → EReal) (z : (⟨0, ![]⟩ : Shape).Idx → EReal)
    (hp : (⟨3, ![64, 64, 64]⟩ : Shape).Pads ![8, 8, 8] hi ![0, 0, 0] ⟨3, ![n, 80, 80]⟩) (hu : 0 < (⟨0, ![]⟩ : Shape).numel)
    (hz : z (Shape.Idx.first hu) = 0) (hx : ∀ i, ∃ r : ℝ, x i = (r : EReal)) (i : Fin n) (j k : Fin 80) :
    pad ⟨3, ![n, 80, 80]⟩ ![8, 8, 8] hi ![0, 0, 0] x z hp hu (ix3 i j k) = ((around x i j k : ℝ) : EReal) := by
  unfold around
  split
  · rename_i h
    obtain ⟨r, hr⟩ := hx (ix3 ⟨i.val - 8, by omega⟩ ⟨j.val - 8, by omega⟩ ⟨k.val - 8, by omega⟩)
    refine (pad_apply_of_inside _ _ _ _ _ _ _ _ (ix3 ⟨i.val - 8, by omega⟩ ⟨j.val - 8, by omega⟩ ⟨k.val - 8, by omega⟩) ?_).trans ?_
    · intro a
      fin_cases a
      · show i.val = 8 + (i.val - 8) * 1; omega
      · show j.val = 8 + (j.val - 8) * 1; omega
      · show k.val = 8 + (k.val - 8) * 1; omega
    · rw [hr, EReal.toReal_coe]
  · rename_i h
    have h' : (¬ (8 ≤ i.val ∧ i.val < 72)) ∨ (¬ (8 ≤ j.val ∧ j.val < 72)) ∨ (¬ (8 ≤ k.val ∧ k.val < 72)) := by tauto
    rcases h' with h' | h' | h'
    · refine (pad_apply_of_not_inside _ _ _ _ _ _ _ _ 0 fun e => h' ?_).trans hz
      have e1 : 8 ≤ i.val ∧ (i.val - 8) % 1 = 0 ∧ (i.val - 8) / 1 < 64 := e
      omega
    · refine (pad_apply_of_not_inside _ _ _ _ _ _ _ _ 1 fun e => h' ?_).trans hz
      have e1 : 8 ≤ j.val ∧ (j.val - 8) % 1 = 0 ∧ (j.val - 8) / 1 < 64 := e
      omega
    · refine (pad_apply_of_not_inside _ _ _ _ _ _ _ _ 2 fun e => h' ?_).trans hz
      have e1 : 8 ≤ k.val ∧ (k.val - 8) % 1 = 0 ∧ (k.val - 8) / 1 < 64 := e
      omega

end Cert.Hog

end
-- ==== Proof.KernelPlane.lean ====
/-  The kernel's plane of 64 bins: two products with band matrices sum each bin over the rows and the columns at a
    distance of at most seven. -/
module

public import proofs.«01_k».proof.Proof.KernelAngles
public import proofs.«01_k».proof.Proof.Mean
public import Idealize.ShloMosaic.Lib.Pipeline.ValueKit

@[expose] public section

set_option maxRecDepth 16384

noncomputable section

namespace Cert.Hog.Kernel

open Idealize.ShloMosaic Cert.KernelIdeal Cert.KernelIdeal.Gen

/-! ### The plane as one term -/

/-- The first angle of every voxel of a plane. -/
def thetaOf (v4 : Vec Ideal S3x80x80 .f32) : FVec Ideal S78x78 .f32 :=
  k0_pay22 (k0_pay12 v4) (k0_pay20 (k0_pay14 v4) (k0_pay15 v4) (k0_pay16 v4) (k0_pay17 v4) (k0_pay18 v4) (k0_pay19 v4))
    k0_pay21

/-- The shares of the first angle's bins, times the size. -/
def firstOf (v4 : Vec Ideal S3x80x80 .f32) : FVec Ideal S8x78x78 .f32 :=
  k0_pay38 (k0_pay13 v4) (k0_pay33 (thetaOf v4)) (k0_pay35 (thetaOf v4)) (k0_pay36 (thetaOf v4))

/-- One of the kernel's functions of the eight arrays that its second angle is made from. -/
def withPhi {α : Type} (f : FVec Ideal S78x78 .f32 → FVec Ideal S78x78 .f32 → FVec Ideal S78x78 .f32 → FVec Ideal S78x78 .f32
    → FVec Ideal S78x78 .f32 → FVec Ideal S78x78 .f32 → FVec Ideal S78x78 .f32 → FVec Ideal S78x78 .f32 → α)
    (v4 : Vec Ideal S3x80x80 .f32) : α :=
  f (k0_pay23 (k0_pay8 v4) (k0_pay13 v4)) (k0_pay24 (k0_pay8 v4) (k0_pay13 v4)) (k0_pay25 (k0_pay8 v4) (k0_pay13 v4))
    (k0_pay26 (k0_pay8 v4) (k0_pay13 v4)) (k0_pay27 (k0_pay8 v4) (k0_pay13 v4)) (k0_pay28 (k0_pay8 v4) (k0_pay13 v4))
    (k0_pay29 (k0_pay8 v4) (k0_pay13 v4)) k0_pay30

/-- The shares of the second angle's bins: the lower one and the upper one. -/
def lowerOf (v4 : Vec Ideal S3x80x80 .f32) : FVec Ideal S8x78x78 .f32 := k0_pay39 (withPhi k0_pay34 v4) (withPhi k0_pay37 v4)
def upperOf (v4 : Vec Ideal S3x80x80 .f32) : FVec Ideal S8x78x78 .f32 := k0_pay40 (withPhi k0_pay32 v4) (withPhi k0_pay34 v4)

/-- The plane of 64 bins made of the shares. -/
def spread (T P Q : FVec Ideal S8x78x78 .f32) : FVec Ideal S64x78x78 .f32 :=
  have A := k0_pay41 T P Q
  have B := k0_pay42
  k0_pay100 A B (k0_pay43 T P Q) (k0_pay44 T P Q) (k0_pay45 T P Q) (k0_pay46 T P Q) (k0_pay48 B (k0_pay47 T P Q))
    (k0_pay49 A B) (k0_pay50 A B) (k0_pay51 A B) (k0_pay52 A B) (k0_pay53 A B) (k0_pay54 A B) (k0_pay55 A B)
    (k0_pay56 A B) (k0_pay57 A B) (k0_pay58 A B) (k0_pay59 A B) (k0_pay61 B (k0_pay60 A)) (k0_pay62 A B) (k0_pay63 A
    B) (k0_pay64 A B) (k0_pay65 A B) (k0_pay66 A B) (k0_pay67 A B) (k0_pay68 A B) (k0_pay69 A B) (k0_pay70 A B)
    (k0_pay71 A B) (k0_pay72 A B) (k0_pay74 B (k0_pay73 A)) (k0_pay75 A B) (k0_pay76 A B) (k0_pay77 A B) (k0_pay78 A
    B) (k0_pay79 A B) (k0_pay80 A B) (k0_pay81 A B) (k0_pay82 A B) (k0_pay83 A B) (k0_pay84 A B) (k0_pay85 A B)
    (k0_pay87 B (k0_pay86 A)) (k0_pay88 A B) (k0_pay89 A B) (k0_pay90 A B) (k0_pay91 A B) (k0_pay92 A B) (k0_pay93 A
    B) (k0_pay94 A B) (k0_pay95 A B) (k0_pay96 A B) (k0_pay97 A B) (k0_pay98 A B) (k0_pay99 A)

/-- The plane that the kernel makes from three planes of its padded input. -/
def planeOf (v4 : Vec Ideal S3x80x80 .f32) : FVec Ideal S64x78x78 .f32 := spread (firstOf v4) (lowerOf v4) (upperOf v4)

/-! ### The products with the band matrices -/

theorem slices_one (b : Fin 64) : S64x96x78.Slices ![b.val, 0, 0] S1x96x78 := by
  revert b; decide +kernel

/-- The bin b of the plane: its rows summed by the second band matrix. -/
def tile (A : FVec Ideal S64x96x78 .f32) (B : FVec Ideal S78x96 .f32) (b : Fin 64) : FVec Ideal S1x78x78 .f32 :=
  shapeCast S1x78x78 (matmul dot_S78x96_S96x78_S78x78_1_0_0_1_n_n none B
    (shapeCast S96x78 (extractStridedSlice S1x96x78 ![b.val, 0, 0] A (slices_one b)) shapeCasts_S1x96x78_S96x78)
    (constant S78x78 .f32 0x00000000#32)) shapeCasts_S78x78_S1x78x78

theorem tile_apply (A : FVec Ideal S64x96x78 .f32) (B : FVec Ideal S78x96 .f32) (b : Fin 64) (h w : Fin 78) :
    tile A B b (ix3 0 h w) = ∑ k : Fin 96, B (ix2 h k) * A (ix3 b k w) := by
  pointwise [tile]

/-- An index of a one-bin array. -/
theorem unit_eq (i : S1x78x78.Idx) (h w : Fin 78) (h0 : (i 0).val = 0) (h1 : (i 1).val = h.val) (h2 : (i 2).val = w.val) :
    i = ix3 0 h w := by
  funext a
  fin_cases a
  · exact Fin.ext h0
  · exact Fin.ext h1
  · exact Fin.ext h2

theorem spread_apply (T P Q : FVec Ideal S8x78x78 .f32) (b : Fin 64) (h w : Fin 78) :
    spread T P Q (ix3 b h w) = ∑ k : Fin 96, k0_pay42 (F := Ideal) (ix2 h k) * k0_pay41 T P Q (ix3 b k w) := by
  rw [← tile_apply]
  unfold spread
  unfold k0_pay43 k0_pay44 k0_pay45 k0_pay46 k0_pay47 k0_pay48 k0_pay49 k0_pay50 k0_pay51 k0_pay52 k0_pay53 k0_pay54
    k0_pay55 k0_pay56 k0_pay57 k0_pay58 k0_pay59 k0_pay60 k0_pay61 k0_pay62 k0_pay63 k0_pay64 k0_pay65 k0_pay66
    k0_pay67 k0_pay68 k0_pay69 k0_pay70 k0_pay71 k0_pay72 k0_pay73 k0_pay74 k0_pay75 k0_pay76 k0_pay77 k0_pay78
    k0_pay79 k0_pay80 k0_pay81 k0_pay82 k0_pay83 k0_pay84 k0_pay85 k0_pay86 k0_pay87 k0_pay88 k0_pay89 k0_pay90
    k0_pay91 k0_pay92 k0_pay93 k0_pay94 k0_pay95 k0_pay96 k0_pay97 k0_pay98 k0_pay99 k0_pay100
  dsimp only
  generalize k0_pay41 T P Q = A
  generalize k0_pay42 (F := Ideal) = B
  concat_tiles i hi
  all_goals
    obtain ⟨b, hb⟩ := b
    change b = _ at hi
    subst hi
    rw [unit_eq i h w hi0 hi1 hi2]
    rfl

/-- A comparison's word as a number. -/
theorem sitofp_decide (p : Prop) [Decidable p] :
    FloatOps.sitofp (F := Ideal) .f32 (BitVec.setWidth 32 (BitVec.ofBool (decide p))) = ((if p then 1 else 0 : ℝ) : EReal) := by
  by_cases h : p <;> simp [h, FloatOps.sitofp]

theorem band_columns (x w : Fin 78) :
    IntOp.cmpi .sle (IntOp.absi (IntOp.subi (BitVec.ofNat 32 x) (BitVec.ofNat 32 w))) 7#32
      = BitVec.ofBool (decide (x.val ≤ w.val + 7 ∧ w.val ≤ x.val + 7)) := by
  revert x w; decide +kernel

theorem band_rows (h : Fin 78) (r : Fin 96) :
    IntOp.cmpi .sle (IntOp.absi (IntOp.subi (IntOp.subi (BitVec.ofNat 32 r) 8#32) (BitVec.ofNat 32 h))) 7#32
      = BitVec.ofBool (decide (r.val ≤ h.val + 8 + 7 ∧ h.val + 8 ≤ r.val + 7)) := by
  revert h r; decide +kernel

theorem pay42_apply (h : Fin 78) (r : Fin 96) :
    k0_pay42 (F := Ideal) (ix2 h r) = ((near r (h + 8) : ℝ) : EReal) := by
  pointwise [k0_pay42]
  rw [band_rows, sitofp_decide]; rfl

/-- A column of 78 rows with eight rows of zeros before it and ten after it. -/
def padded (f : Fin 78 → ℝ) (r : Fin 96) : ℝ := if r.val < 8 then 0 else if h : r.val - 8 < 78 then f ⟨r.val - 8, h⟩ else 0

theorem sum_padded (g : ℕ → ℝ) (f : Fin 78 → ℝ) :
    ∑ r : Fin 96, g r * padded f r = ∑ h : Fin 78, g (h + 8) * f h := by
  have e : (∑ r : Fin 96, g r * padded f r) = ∑ r : Fin (8 + 78 + 10), g r * padded f r := rfl
  rw [e, Fin.sum_univ_add, Fin.sum_univ_add]
  have h1 : ∀ i : Fin 8, padded f (Fin.castAdd 10 (Fin.castAdd 78 i)) = 0 := fun i => by
    unfold padded; rw [if_pos (by simp)]
  have h2 : ∀ i : Fin 78, padded f (Fin.castAdd 10 (Fin.natAdd 8 i)) = f i := fun i => by
    unfold padded
    rw [if_neg (by simp), dif_pos (by simp)]
    congr 1; ext; simp
  have h3 : ∀ i : Fin 10, padded f (Fin.natAdd (8 + 78) i) = 0 := fun i => by
    unfold padded
    rw [if_neg (by simp; omega), dif_neg (by simp; omega)]
  simp only [h1, h2, h3, mul_zero, Finset.sum_const_zero, zero_add, add_zero]
  refine Finset.sum_congr rfl fun i _ => ?_
  congr 2; simp [Nat.add_comm]

/-- A sum of reals is a real. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

section Real

variable (T P Q : FVec Ideal S8x78x78 .f32) (U V : Fin 8 → Fin 78 → Fin 78 → ℝ)
  (hT : ∀ q h w, T (ix3 q h w) = (U q h w : EReal))
  (hP : ∀ p h w, P (ix3 p h w) + Q (ix3 p h w) = (V p h w : EReal))

include hT hP

theorem pay41_apply (b : Fin 64) (r : Fin 96) (w : Fin 78) :
    k0_pay41 T P Q (ix3 b r w) = ((padded (fun h => ∑ x : Fin 78, U ⟨b / 8, by omega⟩ h x * V ⟨b % 8, by omega⟩ h x * near x w) r : ℝ) : EReal) := by
  have zero : (0 : EReal) = ((0 : ℝ) : EReal) := rfl
  pointwise [k0_pay41]
  simp only [hT, hP, band_columns, sitofp_decide]
  have e1 : (b.val * 96 + r.val) / 768 = b.val / 8 := by omega
  have e2 : (b.val * 96 + r.val) / 96 % 8 = b.val % 8 := by omega
  simp only [e1, e2, padded]
  by_cases h : r.val < 8
  · simp [h]
  · by_cases h' : r.val - 8 < 78
    · simp only [h, h', dif_pos, dif_neg, if_false, not_false_eq_true, mul_real, coe_sum, near]
    · simp [h, h']

/-- Every bin of the plane: the sum of the bin over the voxels near. -/
theorem spread_real (b : Fin 64) (h w : Fin 78) :
    spread T P Q (ix3 b h w) = ((∑ h' : Fin 78, ∑ w' : Fin 78,
      near h' h * near w' w * (U ⟨b / 8, by omega⟩ h' w' * V ⟨b % 8, by omega⟩ h' w') : ℝ) : EReal) := by
  rw [spread_apply]
  simp only [pay42_apply, pay41_apply T P Q U V hT hP, mul_real, ← coe_sum]
  rw [sum_padded (fun r => near r (h + 8))]
  congr 1
  refine Finset.sum_congr rfl fun i _ => ?_
  rw [Finset.mul_sum]
  refine Finset.sum_congr rfl fun x _ => ?_
  have e : near (i.val + 8) (h.val + 8) = near i h := by unfold near; congr 1; apply propext; omega
  rw [e]; ring

end Real

/-! ### The plane of real planes -/

section Plane

variable (v4 : Vec Ideal S3x80x80 .f32) (a b' c : Fin 78 → Fin 78 → ℝ)
  (ha : ∀ h w, k0_pay8 v4 (ix2 h w) = (a h w : EReal)) (hb : ∀ h w, k0_pay9 v4 (ix2 h w) = (b' h w : EReal))
  (hc : ∀ h w, k0_pay10 v4 (ix2 h w) = (c h w : EReal))

include ha hb hc

theorem firstOf_real (q : Fin 8) (h w : Fin 78) : firstOf v4 (ix3 q h w)
    = ((share (BitVec.ofNat 32 q) (theta (a h w) (b' h w) (c h w)) * size (a h w) (b' h w) (c h w) : ℝ) : EReal) :=
  pay38_real _ _ q h w _ _ (pay13_real v4 _ _ _ _ (ha h w) (hb h w) (hc h w)) (theta_real v4 _ _ _ _ (ha h w) (hb h w) (hc h w))

theorem second_real (p : Fin 8) (h w : Fin 78) : lowerOf v4 (ix3 p h w) + upperOf v4 (ix3 p h w)
    = ((share (BitVec.ofNat 32 p) (phi (a h w) (b' h w) (c h w)) : ℝ) : EReal) := by
  have hphi : withPhi k0_pay32 v4 (ix2 h w) = _ := phi_real v4 (ix2 h w) _ _ _ (ha h w) (hb h w) (hc h w)
  refine pay40_real _ _ _ p h w _ hphi ?_ ?_
  · have e : withPhi k0_pay34 v4 (ix2 h w) = withPhi k0_pay32 v4 (ix2 h w) - Scalar.select (Ideal.cmp .oge (withPhi k0_pay32 v4 (ix2 h w))
        (Ideal.ofBits .f32 0x00000000#32)) (Ideal.liftRound Int.floor (withPhi k0_pay32 v4 (ix2 h w)))
        (Ideal.liftRound Int.ceil (withPhi k0_pay32 v4 (ix2 h w))) := rfl
    rw [e, hphi, ofBits_zero, floor_real, ceil_real, select_ge, ite_real, sub_real]; rfl
  · have e : withPhi k0_pay37 v4 (ix2 h w) = Ideal.liftRound Int.floor (withPhi k0_pay32 v4 (ix2 h w)) := rfl
    rw [e, hphi, floor_real]

/-- The kernel's plane of bins, each summed over the voxels near. -/
theorem planeOf_real (b : Fin 64) (h w : Fin 78) : planeOf v4 (ix3 b h w)
    = ((∑ h' : Fin 78, ∑ w' : Fin 78, near h' h * near w' w *
      bin (BitVec.ofNat 32 (b.val / 8)) (BitVec.ofNat 32 (b.val % 8)) (a h' w') (b' h' w') (c h' w') : ℝ) : EReal) := by
  unfold planeOf
  rw [spread_real _ _ _ _ _ (firstOf_real v4 a b' c ha hb hc) (second_real v4 a b' c ha hb hc)]
  rfl

end Plane

end Cert.Hog.Kernel

end
-- ==== Proof.KernelRing.lean ====
/-  The kernel's running sum: what its ring of fifteen planes and its sum hold after every step, and the block that a
    step leaves. -/
module

public import proofs.«01_k».proof.Proof.KernelPlane
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Hog.Kernel

open Idealize.ShloMosaic Idealize.SL.Sem Cert.KernelIdeal Cert.KernelIdeal.Gen

variable (m : (ℓ : Loc nD τ sig) → Buf (Elt Ideal) ℓ) (c : Dev nD)

/-- The three planes of the padded input that a step reads. -/
def planes (t : Fin cfg0.N) : Vec Ideal S3x80x80 .f32 :=
  View.ld (iblk m c 0 t) (Rect.unit (k0_off1 (grid0.coords t)) ![3, 80, 80] (k0_off1_inb (grid0.coords t)))

/-- The slot of the ring that a step reads and then overwrites. -/
theorem slot (t : Fin cfg0.N) : k0_off2 (grid0.coords t) = ![t.val % 15, 0, 0, 0] := by
  have h : ∀ t : Fin grid0.N, ∀ a, k0_off2 (grid0.coords t) a = (![t.val % 15, 0, 0, 0] : Fin 4 → ℕ) a := by decide +kernel
  exact funext (h t)

/-- A slot of the ring read. -/
theorem ld_slot (R : Vec Ideal S15x64x78x78 .f32) (t : Fin cfg0.N) (inb) (b : Fin 64) (h w : Fin 78) :
    View.ld R (Rect.unit (k0_off2 (grid0.coords t)) ![1, 64, 78, 78] inb) (ix4 0 b h w)
      = R (ix4 ⟨t.val % 15, Nat.mod_lt _ (by decide)⟩ b h w) := by
  refine View.ld_unit_apply_of _ _ _ _ _ _ fun a => ?_
  have e := congrFun (slot t) a
  rw [e]
  fin_cases a <;> simp [ix4]

/-- The slot's place in the ring. -/
theorem emb_slot (t : Fin cfg0.N) (inb) (b : Fin 64) (h w : Fin 78) :
    (Rect.unit (s := S15x64x78x78) (k0_off2 (grid0.coords t)) ![1, 64, 78, 78] inb).emb (ix4 0 b h w)
      = ix4 ⟨t.val % 15, Nat.mod_lt _ (by decide)⟩ b h w := by
  funext a
  have e := congrFun (slot t) a
  refine Fin.ext ?_
  show k0_off2 (grid0.coords t) a + 1 * _ = _
  rw [e]
  fin_cases a <;> simp [ix4]

theorem not_mem_slot (t : Fin cfg0.N) (inb) (s : Fin 15) (b : Fin 64) (h w : Fin 78) (hs : ¬ s.val = t.val % 15) :
    ix4 s b h w ∉ (Rect.unit (s := S15x64x78x78) (k0_off2 (grid0.coords t)) ![1, 64, 78, 78] inb).set := by
  rw [Rect.mem_set_unit]
  intro hm
  have h0 := hm 0
  have e : k0_off2 (grid0.coords t) 0 = t.val % 15 := congrFun (slot t) 0
  rw [e] at h0
  have h1 : t.val % 15 ≤ s.val ∧ s.val < t.val % 15 + 1 := h0
  omega

theorem pay2_apply (A : FVec Ideal S64x78x78 .f32) (B : Vec Ideal S1x64x78x78 .f32) (S : Vec Ideal S64x78x78 .f32)
    (b : Fin 64) (h w : Fin 78) :
    k0_pay2 A B S (ix3 b h w) = S (ix3 b h w) + A (ix3 b h w) - B (ix4 0 b h w) := by
  pointwise [k0_pay2, k0_pay1]

theorem pay3_apply (A : FVec Ideal S64x78x78 .f32) (b : Fin 64) (h w : Fin 78) :
    k0_pay3 A (ix4 0 b h w) = A (ix3 b h w) := by
  pointwise [k0_pay3]

theorem count_word (h : Fin 78) : (IntOp.addi (IntOp.addi (IntOp.minsi (BitVec.ofNat 32 h) 7#32)
    (IntOp.minsi (IntOp.subi (77#32) (BitVec.ofNat 32 h)) 7#32)) 1#32).toInt = (count h : ℤ) := by
  revert h; decide +kernel

theorem count_step (t : Fin cfg0.N) (ht : 7 ≤ t.val) :
    (Scalar.addi (Scalar.addi (Scalar.minsi (Scalar.subi (BitVec.ofNat 32 (grid0.coords t 0).val) 7#32) 7#32)
      (Scalar.minsi (Scalar.subi (77#32) (Scalar.subi (BitVec.ofNat 32 (grid0.coords t 0).val) 7#32)) 7#32)) 1#32).toInt
      = (count (t.val - 7) : ℤ) := by
  have h : ∀ t : Fin grid0.N, 7 ≤ t.val →
    (Scalar.addi (Scalar.addi (Scalar.minsi (Scalar.subi (BitVec.ofNat 32 (grid0.coords t 0).val) 7#32) 7#32)
      (Scalar.minsi (Scalar.subi (77#32) (Scalar.subi (BitVec.ofNat 32 (grid0.coords t 0).val) 7#32)) 7#32)) 1#32).toInt
      = (count (t.val - 7) : ℤ) := by decide +kernel
  exact h t ht

theorem sitofp_count (h : Fin 78) : FloatOps.sitofp (F := Ideal) .f32 (IntOp.addi (IntOp.addi (IntOp.minsi (BitVec.ofNat 32 h) 7#32)
    (IntOp.minsi (IntOp.subi (77#32) (BitVec.ofNat 32 h)) 7#32)) 1#32) = ((count h : ℝ) : EReal) := by
  change (((IntOp.addi (IntOp.addi (IntOp.minsi (BitVec.ofNat 32 h) 7#32)
    (IntOp.minsi (IntOp.subi (77#32) (BitVec.ofNat 32 h)) 7#32)) 1#32).toInt : ℝ) : EReal) = _
  rw [count_word]; norm_cast

theorem pay4_apply (t : Fin cfg0.N) (ht : 7 ≤ t.val) (A : FVec Ideal S64x78x78 .f32) (B : Vec Ideal S1x64x78x78 .f32)
    (S : Vec Ideal S64x78x78 .f32) (b : Fin 64) (h w : Fin 78) (r : ℝ) (hr : k0_pay2 A B S (ix3 b h w) = (r : EReal)) :
    k0_pay4 (BitVec.ofNat 32 (grid0.coords t 0).val) A B S (ix4 b 0 h w)
      = ((r * (1 / count (t.val - 7) / (count h * count w)) : ℝ) : EReal) := by
  rw [pay2_apply] at hr
  have one : (1 : EReal) = ((1 : ℝ) : EReal) := rfl
  have hz : ((count (t.val - 7) : ℤ) : ℝ) ≠ 0 := by exact_mod_cast count_pos (t.val - 7)
  pointwise [k0_pay4, k0_pay1]
  rw [hr, sitofp_count, sitofp_count, count_step t ht, mul_real, one, div_real _ _ hz,
    div_real _ _ (mul_ne_zero (count_pos h) (count_pos w)), mul_real, Int.cast_natCast]

section Steps

variable (t : Fin cfg0.N) (s : Fin 15) (b : Fin 64) (h w : Fin 78)

/-- A store into a slot of the ring, over what the ring held. -/
theorem read_slot (R : Vec Ideal S15x64x78x78 .f32) (q : FVec Ideal S1x64x78x78 .f32) (inb) :
    View.read (Elt Ideal) (View.whole cc0_scratch0)
      ((View.whole cc0_scratch0).writes (Elt Ideal) ((Memref.isWhole_whole cc0_scratch0).unread R)
        [⟨Rect.unit (k0_off2 (grid0.coords t)) ![1, 64, 78, 78] inb, q⟩]) (ix4 s b h w)
      = if s.val = t.val % 15 then q (ix4 0 b h w) else R (ix4 s b h w) := by
  split
  · rename_i hs
    have e : ix4 s b h w = (Rect.unit (s := S15x64x78x78) (k0_off2 (grid0.coords t)) ![1, 64, 78, 78] inb).emb (ix4 0 b h w) := by
      rw [emb_slot]; congr 1; exact Fin.ext hs
    rw [e]
    exact View.read_writes_cons_emb _ _ _ _ _ _
  · rename_i hs
    refine (View.read_writes_apply_of_forall_not_mem _ _ _ _ fun p hp => ?_).trans
      (congrFun (read_unread_whole cc0_scratch0 (Memref.isWhole_whole cc0_scratch0) R) (ix4 s b h w))
    obtain rfl := List.mem_singleton.mp hp
    exact not_mem_slot t inb s b h w hs

theorem ring_first (h0 : t.val % 85 = 0) (h1 : ¬ 7 ≤ t.val) : (outsAt0 m c t.val t.isLt).2.1 (ix4 s b h w)
    = if s.val = t.val % 15 then planeOf (planes m c t) (ix3 b h w) else 0 := by
  rw [outsAt0_A m c t h0 h1]
  frame_out
  rw [← pay3_apply (planeOf (planes m c t))]
  change View.canon ((⟨Rect.unit (s := S15x64x78x78) (k0_off2 (grid0.coords t)) ![1, 64, 78, 78]
    (k0_off2_inb (grid0.coords t)), k0_pay3 (planeOf (planes m c t))⟩ : View.Piece (Elt Ideal) S15x64x78x78 .f32) :: [_]) _ = _
  split
  · rename_i hs
    have e : ix4 s b h w = (Rect.unit (s := S15x64x78x78) (k0_off2 (grid0.coords t)) ![1, 64, 78, 78]
        (k0_off2_inb (grid0.coords t))).emb (ix4 0 b h w) := by
      rw [emb_slot]; congr 1; exact Fin.ext hs
    rw [e]
    exact View.canon_cons_emb _ _ _ _
  · rename_i hs
    refine Eq.trans (View.canon_cons_of_not_mem _ _ ?_) ?_
    · exact not_mem_slot t (k0_off2_inb (grid0.coords t)) s b h w hs
    refine (congrFun (View.canon_cons_unit_lit' _ _ _ (by intro a; fin_cases a <;> rfl)) _).trans ?_
    pointwise [k0_pay5]

theorem ring_next (h0 : ¬ t.val % 85 = 0) : (outsAt0 m c t.val t.isLt).2.1 (ix4 s b h w)
    = if s.val = t.val % 15 then planeOf (planes m c t) (ix3 b h w)
      else (outsAt0 m c (t.val - 1) (Nat.lt_of_le_of_lt (Nat.sub_le _ _) t.isLt)).2.1 (ix4 s b h w) := by
  rw [← pay3_apply (planeOf (planes m c t))]
  by_cases h1 : 7 ≤ t.val
  · rw [outsAt0_C m c t h0 h1]
    frame_out
    exact read_slot t s b h w _ _ _
  · rw [outsAt0_B m c t h0 h1]
    frame_out
    exact read_slot t s b h w _ _ _

theorem sum_first (h0 : t.val % 85 = 0) (h1 : ¬ 7 ≤ t.val) : (outsAt0 m c t.val t.isLt).2.2 (ix3 b h w)
    = 0 + planeOf (planes m c t) (ix3 b h w) - 0 := by
  rw [outsAt0_A m c t h0 h1]
  frame_out
  change k0_pay2 (planeOf (planes m c t)) _ _ _ = _
  rw [pay2_apply, ld_slot]
  congr 1
  · congr 1
    pointwise [k0_pay6]
  · pointwise [k0_pay5]

theorem sum_next (h0 : ¬ t.val % 85 = 0) : (outsAt0 m c t.val t.isLt).2.2 (ix3 b h w)
    = (outsAt0 m c (t.val - 1) (Nat.lt_of_le_of_lt (Nat.sub_le _ _) t.isLt)).2.2 (ix3 b h w) + planeOf (planes m c t) (ix3 b h w)
      - (outsAt0 m c (t.val - 1) (Nat.lt_of_le_of_lt (Nat.sub_le _ _) t.isLt)).2.1 (ix4 ⟨t.val % 15, Nat.mod_lt _ (by decide)⟩ b h w) := by
  by_cases h1 : 7 ≤ t.val
  · rw [outsAt0_C m c t h0 h1]
    frame_out
    change k0_pay2 (planeOf (planes m c t)) _ _ _ = _
    simp only [read_unread_whole]
    rw [pay2_apply, ld_slot]
  · rw [outsAt0_B m c t h0 h1]
    frame_out
    change k0_pay2 (planeOf (planes m c t)) _ _ _ = _
    simp only [read_unread_whole]
    rw [pay2_apply, ld_slot]

end Steps

/-! ### The recurrences solved -/

/-- The planes in order, after fifteen zero planes. -/
def delayed (Pl : ℕ → ℝ) (n : ℕ) : ℝ := if n < 15 then 0 else Pl (n - 15)

theorem delayed_add (Pl : ℕ → ℝ) (n : ℕ) : delayed Pl (n + 15) = Pl n := by simp [delayed]

theorem window_next (Q : ℕ → ℝ) (t : ℕ) :
    (∑ k ∈ Finset.range 15, Q (t + 1 + k)) = (∑ k ∈ Finset.range 15, Q (t + k)) + Q (t + 15) - Q t := by
  have h1 := Finset.sum_range_succ' (fun k => Q (t + k)) 15
  have h2 := Finset.sum_range_succ (fun k => Q (t + k)) 15
  have h3 : (∑ k ∈ Finset.range 15, Q (t + 1 + k)) = ∑ k ∈ Finset.range 15, Q (t + (k + 1)) :=
    Finset.sum_congr rfl fun k _ => by rw [add_assoc, add_comm 1 k]
  rw [h3]
  simp only [Nat.add_zero] at h1
  linarith

/-- What the ring and the running sum hold after a step, at one place of a plane. -/
theorem carried (b : Fin 64) (h w : Fin 78) (Pl : ℕ → ℝ)
    (hP : ∀ t : Fin cfg0.N, planeOf (planes m c t) (ix3 b h w) = (Pl t.val : EReal)) :
    ∀ (t : ℕ) (ht : t < cfg0.N),
      (∀ s : Fin 15, (outsAt0 m c t ht).2.1 (ix4 s b h w) = (delayed Pl (t + 15 - (t + 15 - s.val) % 15) : EReal))
      ∧ (outsAt0 m c t ht).2.2 (ix3 b h w) = ((∑ k ∈ Finset.range 15, delayed Pl (t + 1 + k) : ℝ) : EReal) := by
  intro t
  induction t with
  | zero =>
    intro ht
    have hp := hP ⟨0, ht⟩
    refine ⟨fun s => ?_, ?_⟩
    · refine (ring_first m c ⟨0, ht⟩ s b h w rfl (show ¬ 7 ≤ 0 by decide)).trans ?_
      rw [hp]
      by_cases hs : s.val = 0
      · rw [if_pos (by simpa using hs), hs]; rfl
      · rw [if_neg (by simpa using hs)]
        have h15 := s.isLt
        rw [delayed, if_pos (by omega)]; rfl
    · refine (sum_first m c ⟨0, ht⟩ b h w rfl (show ¬ 7 ≤ 0 by decide)).trans ?_
      rw [hp]
      have : (∑ k ∈ Finset.range 15, delayed Pl (0 + 1 + k)) = Pl 0 := by
        simp [Finset.sum_range_succ, delayed]
      rw [this]
      simp
  | succ t ih =>
    intro ht
    obtain ⟨ihR, ihS⟩ := ih (by omega)
    have hN : cfg0.N = 85 := N_0
    have h0 : ¬ (t + 1) % 85 = 0 := by omega
    have hp := hP ⟨t + 1, ht⟩
    refine ⟨fun s => ?_, ?_⟩
    · refine (ring_next m c ⟨t + 1, ht⟩ s b h w h0).trans ?_
      rw [hp]
      have h15 := s.isLt
      by_cases hs : s.val = (t + 1) % 15
      · rw [if_pos hs]
        have : t + 1 + 15 - (t + 1 + 15 - s.val) % 15 = t + 1 + 15 := by omega
        rw [this, delayed_add]
      · rw [if_neg hs]
        refine (ihR s).trans ?_
        have : t + 1 + 15 - (t + 1 + 15 - s.val) % 15 = t + 15 - (t + 15 - s.val) % 15 := by omega
        rw [this]
    · refine (sum_next m c ⟨t + 1, ht⟩ b h w h0).trans ?_
      rw [hp]
      have e1 := ihR ⟨(t + 1) % 15, Nat.mod_lt _ (by decide)⟩
      refine (congrArg₂ (fun x y : EReal => x + ((Pl (t + 1) : ℝ) : EReal) - y) ihS e1).trans ?_
      have : t + 15 - (t + 15 - (t + 1) % 15) % 15 = t + 1 := by omega
      simp only [this]
      rw [add_real, sub_real, window_next (delayed Pl) (t + 1), delayed_add]

/-- The block that a step from the eighth on stores. -/
theorem block (b : Fin 64) (h w : Fin 78) (Pl : ℕ → ℝ)
    (hP : ∀ t : Fin cfg0.N, planeOf (planes m c t) (ix3 b h w) = (Pl t.val : EReal)) (t : Fin cfg0.N) (h1 : 7 ≤ t.val) :
    (outsAt0 m c t.val t.isLt).1 (ix4 b 0 h w)
      = (((∑ k ∈ Finset.range 15, delayed Pl (t.val + 1 + k)) * (1 / count (t.val - 7) / (count h * count w)) : ℝ) : EReal) := by
  have hN : cfg0.N = 85 := N_0
  have h0 : ¬ t.val % 85 = 0 := by have := t.isLt; omega
  have hS := (carried m c b h w Pl hP t.val t.isLt).2
  rw [outsAt0_C m c t h0 h1] at hS ⊢
  revert hS
  frame_out
  change k0_pay2 (planeOf (planes m c t)) _ _ _ = _ → k0_pay4 _ (planeOf (planes m c t)) _ _ _ = _
  intro hS
  exact pay4_apply t h1 _ _ _ b h w _ hS

end Cert.Hog.Kernel

end
-- ==== Proof.KernelArray.lean ====
/-  The kernel's result array: the mean of the bins over the box around every voxel. -/
module

public import proofs.«01_k».proof.Proof.KernelRing
public import Idealize.ShloMosaic.Lib.Claim

@[expose] public section

set_option maxRecDepth 16384

noncomputable section

namespace Cert.Hog.Kernel

open Idealize.ShloMosaic Idealize.SL.Sem Cert.KernelIdeal Cert.KernelIdeal.Gen

variable (m : (ℓ : Loc nD τ sig) → Buf (Elt Ideal) ℓ) (c : Dev nD)

/-- The volume that a device is given. -/
abbrev input : (⟨3, ![64, 64, 64]⟩ : Shape).Idx → EReal := m ((c.tc : Thread nD τ).loc main_arg0)

theorem offset (t : Fin cfg0.N) : k0_off1 (grid0.coords t) = ![t.val, 0, 0] := by
  have h : ∀ t : Fin grid0.N, ∀ a, k0_off1 (grid0.coords t) a = (![t.val, 0, 0] : Fin 3 → ℕ) a := by decide +kernel
  exact funext (h t)

/-- The padded input. -/
theorem padded_input (i : Fin 87) (j k : Fin 80) (hx : ∀ i, ∃ r : ℝ, input m c i = (r : EReal)) :
    V m c (Pipeline.arrRef spec0 0) (ix3 i j k) = ((around (input m c) i j k : ℝ) : EReal) := by
  entry_read
  refine pad_around ![15, 8, 8] (input m c) (sitofp (F := Ideal) .f32 (constantI S_ 32 0#32))
    Cert.KernelIdeal.Facts₀.pads_S64x64x64_S87x80x80_8150_880_880 Cert.KernelIdeal.Facts₀.h_S_ ?_ hx i j k
  show (((0#32 : BitVec 32).toInt : ℝ) : EReal) = 0
  simp

/-- The planes that a step reads, at an index. -/
theorem planes_apply (t : Fin cfg0.N) (a : Fin 3) (j k : Fin 80) (hx : ∀ i, ∃ r : ℝ, input m c i = (r : EReal)) :
    planes m c t (ix3 a j k) = ((around (input m c) (t.val + a.val) j k : ℝ) : EReal) := by
  have hN : cfg0.N = 85 := N_0
  have ht := t.isLt
  refine Eq.trans (View.ld_unit_apply_of _ _ _ _ _ (ix3 (⟨t.val + a.val, by omega⟩ : Fin 87) j k) fun x => ?_) ?_
  · have e := congrFun (offset t) x
    rw [e]
    fin_cases x <;> simp [ix3]
  · refine Eq.trans ?_ (padded_input m c (⟨t.val + a.val, by omega⟩ : Fin 87) j k hx)
    blk_simp [iblk]
    refine congrArg (V m c main_call0_v2) ?_
    funext x
    fin_cases x <;> refine Fin.ext ?_ <;> blk_simp
    · rw [(show ∀ t : Fin grid0.N, win0_0.index t 0 = 0 by decide +kernel) t]; omega
    · rw [(show ∀ t : Fin grid0.N, win0_0.index t 1 = 0 by decide +kernel) t]; omega
    · rw [(show ∀ t : Fin grid0.N, win0_0.index t 2 = 0 by decide +kernel) t]; omega

theorem pay8_apply (v4 : Vec Ideal S3x80x80 .f32) (h w : Fin 78) : k0_pay8 v4 (ix2 h w)
    = v4 (ix3 2 ⟨1 + h.val, by omega⟩ ⟨1 + w.val, by omega⟩) - v4 (ix3 0 ⟨1 + h.val, by omega⟩ ⟨1 + w.val, by omega⟩) := by
  pointwise [k0_pay8, k0_pay7]

theorem pay9_apply (v4 : Vec Ideal S3x80x80 .f32) (h w : Fin 78) : k0_pay9 v4 (ix2 h w)
    = v4 (ix3 1 ⟨2 + h.val, by omega⟩ ⟨1 + w.val, by omega⟩) - v4 (ix3 1 ⟨0 + h.val, by omega⟩ ⟨1 + w.val, by omega⟩) := by
  pointwise [k0_pay9, k0_pay7]

theorem pay10_apply (v4 : Vec Ideal S3x80x80 .f32) (h w : Fin 78) : k0_pay10 v4 (ix2 h w)
    = v4 (ix3 1 ⟨1 + h.val, by omega⟩ ⟨2 + w.val, by omega⟩) - v4 (ix3 1 ⟨1 + h.val, by omega⟩ ⟨0 + w.val, by omega⟩) := by
  pointwise [k0_pay10, k0_pay7]

theorem planeOf_planes (t : Fin cfg0.N) (b : Fin 64) (h w : Fin 78) (hx : ∀ i, ∃ r : ℝ, input m c i = (r : EReal)) :
    planeOf (planes m c t) (ix3 b h w) = ((∑ h' : Fin 78, ∑ w' : Fin 78, near h' h * near w' w *
      vote (input m c) b t.val h' w' : ℝ) : EReal) := by
  refine planeOf_real (planes m c t) (fun h w => slopeA (input m c) t.val h w) (fun h w => slopeB (input m c) t.val h w)
    (fun h w => slopeC (input m c) t.val h w) (fun h w => ?_) (fun h w => ?_) (fun h w => ?_) b h w
  · refine (pay8_apply _ h w).trans ((congrArg₂ (fun x y : EReal => x - y) (planes_apply m c t 2 ⟨1 + h.val, by omega⟩ ⟨1 + w.val, by omega⟩ hx)
      (planes_apply m c t 0 ⟨1 + h.val, by omega⟩ ⟨1 + w.val, by omega⟩ hx)).trans ?_)
    rw [sub_real]
    unfold slopeA
    simp only [Nat.add_comm _ h.val, Nat.add_comm _ w.val]
    rfl
  · refine (pay9_apply _ h w).trans ((congrArg₂ (fun x y : EReal => x - y) (planes_apply m c t 1 ⟨2 + h.val, by omega⟩ ⟨1 + w.val, by omega⟩ hx)
      (planes_apply m c t 1 ⟨0 + h.val, by omega⟩ ⟨1 + w.val, by omega⟩ hx)).trans ?_)
    rw [sub_real]
    unfold slopeB
    simp only [Nat.add_comm _ h.val, Nat.add_comm _ w.val]
    rfl
  · refine (pay10_apply _ h w).trans ((congrArg₂ (fun x y : EReal => x - y) (planes_apply m c t 1 ⟨1 + h.val, by omega⟩ ⟨2 + w.val, by omega⟩ hx)
      (planes_apply m c t 1 ⟨1 + h.val, by omega⟩ ⟨0 + w.val, by omega⟩ hx)).trans ?_)
    rw [sub_real]
    unfold slopeC
    simp only [Nat.add_comm _ h.val, Nat.add_comm _ w.val]
    rfl

/-- The sum of the fifteen latest planes is the sum of the planes near. -/
theorem window_near (Pl : ℕ → ℝ) (hPl : ∀ n, 78 ≤ n → Pl n = 0) (z : ℕ) (hz : z < 78) :
    (∑ k ∈ Finset.range 15, delayed Pl (z + 8 + k)) = ∑ d : Fin 78, near d z * Pl d := by
  rw [Fin.sum_univ_eq_sum_range (fun d => near d z * Pl d) 78]
  have e1 : (∑ k ∈ Finset.range 15, delayed Pl (z + 8 + k)) = ∑ n ∈ Finset.Ico (z + 8) (z + 23), delayed Pl n := by
    rw [Finset.sum_Ico_eq_sum_range]; congr 2; omega
  have e2 : (∑ n ∈ Finset.Ico (z + 8) (z + 23), delayed Pl n)
      = ∑ n ∈ Finset.range (15 + 86), if z + 8 ≤ n ∧ n < z + 23 then delayed Pl n else 0 := by
    rw [← Finset.sum_filter]
    refine Finset.sum_congr ?_ fun _ _ => rfl
    ext n; simp only [Finset.mem_Ico, Finset.mem_filter, Finset.mem_range]; omega
  have e3 : (∑ n ∈ Finset.range (78 + 8), near n z * Pl n) = ∑ n ∈ Finset.range 78, near n z * Pl n := by
    rw [Finset.sum_range_add]
    refine (add_eq_left).mpr (Finset.sum_eq_zero fun k _ => ?_)
    rw [hPl _ (by omega), mul_zero]
  rw [e1, e2, Finset.sum_range_add, ← e3]
  have e4 : (∑ n ∈ Finset.range 15, if z + 8 ≤ n ∧ n < z + 23 then delayed Pl n else 0) = 0 := by
    refine Finset.sum_eq_zero fun n hn => ?_
    have := Finset.mem_range.mp hn
    simp [delayed, this]
  rw [e4, zero_add]
  refine Finset.sum_congr rfl fun n _ => ?_
  rw [add_comm 15 n, delayed_add]
  unfold near
  by_cases h : z + 8 ≤ n + 15 ∧ n + 15 < z + 23
  · rw [if_pos h, if_pos (by omega), one_mul]
  · rw [if_neg h, if_neg (by omega), zero_mul]

/-- The block that a step from the eighth on stores, at an index. -/
theorem block_mean (b : Fin 64) (h w : Fin 78) (hx : ∀ i, ∃ r : ℝ, input m c i = (r : EReal)) (t : Fin cfg0.N) (h1 : 7 ≤ t.val) :
    (outsAt0 m c t.val t.isLt).1 (ix4 b 0 h w) = ((mean (input m c) b (t.val - 7) h w : ℝ) : EReal) := by
  have hN : cfg0.N = 85 := N_0
  have ht := t.isLt
  rw [block m c b h w (fun n => ∑ h' : Fin 78, ∑ w' : Fin 78, near h' h * near w' w * vote (input m c) b n h' w')
    (fun t => planeOf_planes m c t b h w hx) t h1]
  congr 1
  have e : t.val + 1 = t.val - 7 + 8 := by omega
  rw [e, window_near _ _ _ (by omega)]
  · unfold mean
    simp only [Finset.mul_sum]
    have := count_pos (t.val - 7); have := count_pos h; have := count_pos w
    have e2 : ∀ S : ℝ, S * (1 / count (t.val - 7) / (count h * count w)) = S / (count (t.val - 7) * count h * count w) := by
      intro S; field_simp
    rw [e2]
    congr 1
    refine Finset.sum_congr rfl fun d _ => Finset.sum_congr rfl fun h' _ => Finset.sum_congr rfl fun w' _ => ?_
    ring
  · intro n hn
    refine Finset.sum_eq_zero fun h' _ => Finset.sum_eq_zero fun w' _ => ?_
    rw [vote_zero _ _ _ _ _ hn, mul_zero]

theorem place (t : Fin cfg0.N) (h : 7 ≤ t.val) : win0_1.index t = ![0, t.val - 7, 0, 0] := by
  have h : ∀ t : Fin grid0.N, 7 ≤ t.val → ∀ a, win0_1.index t a = (![0, t.val - 7, 0, 0] : Fin 4 → ℕ) a := by decide +kernel
  exact funext (h t ‹_›)

/-- The kernel's result. -/
theorem result (hx : ∀ i, ∃ r : ℝ, input m c i = (r : EReal)) :
    (dats m 0 c).arrAt 1 cfg0.N = fun i => ((mean (input m c) (i 0).val (i 1).val (i 2).val (i 3).val : ℝ) : EReal) := by
  refine (dats m 0 c).arrAt_eq_of_covers 1 _ (by decide +kernel) fun t hf y => ?_
  have h7 : 7 ≤ t.val := by
    have h : ∀ t : Fin cfg0.N, (cfg0.win 1).flush t = true → 7 ≤ t.val := by decide +kernel
    exact h t hf
  have e := place t h7
  rw [after0_1]
  blk_simp [e]
  have key : ∀ y : S64x1x78x78.Idx, (outsAt0 m c t.val t.isLt).1 y
      = ((mean (input m c) (y 0).val (t.val - 7) (y 2).val (y 3).val : ℝ) : EReal) := by
    intro y
    refine Eq.trans (congrArg _ ?_) (block_mean m c (y 0) (y 2) (y 3) hx t h7)
    funext a
    fin_cases a
    · rfl
    · exact Subsingleton.elim (α := Fin 1) _ _
    · rfl
    · rfl
  exact key y

end Cert.Hog.Kernel

end
-- ==== Proof.RefAngles.lean ====
/-  The reference's arithmetic at one voxel: its angles, its bins and its shares are those of Reals.lean wherever the
    gradient is real. -/
module

public import proofs.«01_k».proof.Proof.Gen.ReferenceIdeal.Read
public import proofs.«01_k».proof.Proof.Reals
public import Idealize.ShloMosaic.Lib.Affine
public import Idealize.ShloMosaic.Lib.WordCmp

@[expose] public section

set_option maxRecDepth 16384

noncomputable section

namespace Cert.Hog.Ref

open Idealize.ShloMosaic Cert.ReferenceIdeal Cert.ReferenceIdeal.Read

/-- A word of 32 bits as a float of the idealized program. -/
abbrev fl (b : BitVec 32) : Ideal .f32 := FloatOps.ofBits (F := Ideal) .f32 b

/-- The reference's polynomial: powers and terms one after another. -/
def series (t : Ideal .f32) : Ideal .f32 :=
  let s := FloatOps.mulf t t
  let p3 := FloatOps.mulf t s
  let p5 := FloatOps.mulf p3 s
  let p7 := FloatOps.mulf p5 s
  let p9 := FloatOps.mulf p7 s
  let p11 := FloatOps.mulf p9 s
  let p13 := FloatOps.mulf p11 s
  let p15 := FloatOps.mulf p13 s
  let p17 := FloatOps.mulf p15 s
  let p19 := FloatOps.mulf p17 s
  FloatOps.addf (FloatOps.addf (FloatOps.addf (FloatOps.addf (FloatOps.addf (FloatOps.addf (FloatOps.addf (FloatOps.addf
    (FloatOps.addf (FloatOps.mulf (fl 0x3F800000#32) t) (FloatOps.mulf (fl 0xBEAAAA9D#32) p3))
    (FloatOps.mulf (fl 0x3E4CC8F4#32) p5)) (FloatOps.mulf (fl 0xBE12128F#32) p7)) (FloatOps.mulf (fl 0x3DE06D64#32) p9))
    (FloatOps.mulf (fl 0xBDAC9918#32) p11)) (FloatOps.mulf (fl 0x3D6F71A1#32) p13)) (FloatOps.mulf (fl 0xBD020D05#32) p15))
    (FloatOps.mulf (fl 0x3C38724E#32) p17)) (FloatOps.mulf (fl 0xBAF61939#32) p19)

/-- A quotient that divides by one where the divisor is zero. -/
def quotient (a b : Ideal .f32) : Ideal .f32 :=
  FloatOps.hostDivf a (Scalar.select (FloatOps.cmpf .oeq b (fl 0x00000000#32)) (fl 0x3F800000#32) b)

/-- The reference's angle of a point, by octants. -/
def octants (y x : Ideal .f32) : Ideal .f32 :=
  let ax := FloatOps.hostAbsf x
  let ay := FloatOps.hostAbsf y
  let first := Scalar.select (FloatOps.cmpf .ogt ay ax) (FloatOps.subf (fl 0x3FC90FDB#32) (series (quotient ax ay)))
    (series (quotient ay ax))
  let upper := Scalar.select (FloatOps.cmpf .olt x (fl 0x00000000#32)) (FloatOps.subf (fl 0x40490FDB#32) first) first
  Scalar.select (FloatOps.cmpf .olt y (fl 0x00000000#32)) (FloatOps.hostNegf upper) upper

theorem series_real (t : ℝ) : series (t : EReal) = ((arctanUnit t : ℝ) : EReal) := by
  simp only [series, arctanUnit, Ideal.mulf_def, Ideal.addf_def, fl, Ideal.ofBits_def, ofBits_one,
    ofBits_real 0xBEAAAA9D#32 (by decide), ofBits_real 0x3E4CC8F4#32 (by decide),
    ofBits_real 0xBE12128F#32 (by decide), ofBits_real 0x3DE06D64#32 (by decide), ofBits_real 0xBDAC9918#32 (by decide),
    ofBits_real 0x3D6F71A1#32 (by decide), ofBits_real 0xBD020D05#32 (by decide), ofBits_real 0x3C38724E#32 (by decide),
    ofBits_real 0xBAF61939#32 (by decide), mul_real, add_real]

theorem quotient_real (a b : ℝ) : quotient (a : EReal) (b : EReal) = ((a / (if b = 0 then 1 else b) : ℝ) : EReal) := by
  have h : (if b = 0 then 1 else b) ≠ 0 := by
    split
    · norm_num
    · assumption
  simp only [quotient, Ideal.cmpf_def, fl, Ideal.ofBits_def, ofBits_zero, ofBits_one, select_eq, ite_real, Ideal.hostDivf_def,
    div_real _ _ h]

theorem max_neg (a : ℝ) : max (a : EReal) ((-a : ℝ) : EReal) = ((|a| : ℝ) : EReal) := max_real a (-a)

theorem octants_real (y x : ℝ) : octants (y : EReal) (x : EReal) = ((angle y x : ℝ) : EReal) := by
  simp only [octants, angle, Ideal.cmpf_def, fl, Ideal.ofBits_def, ofBits_zero, ofBits_pi, ofBits_half_pi, Ideal.hostAbsf_def,
    Ideal.absf_def, Ideal.hostNegf_def, Ideal.negf_def, neg_real, max_neg, quotient_real, series_real, Ideal.subf_def, sub_real, select_gt,
    select_lt, ite_real]

/-- Rounding toward zero, as the reference writes it. -/
def trunc (r : Ideal .f32) : Ideal .f32 :=
  Scalar.select (FloatOps.cmpf .olt r (fl 0x00000000#32)) (FloatOps.hostUnary .ceil r) (FloatOps.hostUnary .floor r)

theorem trunc_real (r : ℝ) : FloatOps.subf (r : Ideal .f32) (trunc (r : EReal)) = ((part r : ℝ) : EReal) := by
  have e : (if r < 0 then (⌈r⌉ : ℝ) else (⌊r⌋ : ℝ)) = if 0 ≤ r then (⌊r⌋ : ℝ) else (⌈r⌉ : ℝ) := by
    by_cases h : r < 0
    · rw [if_pos h, if_neg (not_le.mpr h)]
    · rw [if_neg h, if_pos (not_lt.mp h)]
  simp only [trunc, part, Ideal.cmpf_def, fl, Ideal.ofBits_def, ofBits_zero, Ideal.hostUnary_ceil_def, Ideal.hostUnary_floor_def,
    ceil_real, floor_real, select_lt, ite_real, Ideal.subf_def, sub_real, e]

/-- The remainder of a word by eight with the sign of the divisor, as the reference writes it. -/
def wrap (z : BitVec 32) : BitVec 32 :=
  let eight : BitVec 32 := Scalar.select (IntOp.cmpi .eq 8#32 0#32) 1#32 8#32
  let s := IntOp.remsi .host z eight
  Scalar.select (IntOp.andi (IntOp.cmpi .ne (IntOp.cmpi .slt s 0#32) (IntOp.cmpi .slt eight 0#32)) (IntOp.cmpi .ne s 0#32))
    (IntOp.addi s eight) s

theorem and_seven (z : BitVec 32) : (z &&& 7#32).toNat = z.toNat % 8 := by
  rw [BitVec.toNat_and]
  exact Nat.and_two_pow_sub_one_eq_mod z.toNat 3

theorem wrap_eq (z : BitVec 32) : wrap z = z &&& 7#32 := by
  have e8 : (Scalar.select (IntOp.cmpi .eq 8#32 0#32) 1#32 8#32 : BitVec 32) = 8#32 := by decide
  have er : IntOp.remsi .host z 8#32 = z.srem 8#32 := IntOp.remsi_of_pos .host (by decide)
  unfold wrap
  simp only [e8, er]
  have hs : (z.srem 8#32).toInt = Int.tmod z.toInt 8 := by rw [BitVec.toInt_srem]; rfl
  generalize z.srem 8#32 = s at hs ⊢
  have h8 : IntOp.cmpi .slt 8#32 0#32 = 0#1 := by decide
  have hz := BitVec.toInt_eq_toNat_cond z
  have hlt := z.isLt
  have hsz := BitVec.toInt_eq_toNat_cond s
  have hslt := s.isLt
  have hm := and_seven z
  have ht := Int.tmod_eq_emod (a := z.toInt) (b := 8)
  have ez : z.toInt % 8 = (z.toNat % 8 : ℕ) := by omega
  rw [h8, WordCmp.cmpi_slt_eq]
  by_cases hneg : s.toInt < 0
  · have hne : s ≠ 0#32 := by rintro rfl; exact absurd hneg (by decide)
    have e : Scalar.select (IntOp.andi (IntOp.cmpi .ne (BitVec.ofBool (decide (s.toInt < (0#32 : BitVec 32).toInt))) 0#1)
        (IntOp.cmpi .ne s 0#32)) (IntOp.addi s 8#32) s = s + 8#32 := by
      rw [WordCmp.cmpi_ne_eq s, decide_eq_true hne, decide_eq_true (by simpa using hneg)]
      rfl
    rw [e]
    apply BitVec.eq_of_toNat_eq
    rw [hm, BitVec.toNat_add]
    change (s.toNat + 8) % 2 ^ 32 = _
    split at ht <;> omega
  · have e : Scalar.select (IntOp.andi (IntOp.cmpi .ne (BitVec.ofBool (decide (s.toInt < (0#32 : BitVec 32).toInt))) 0#1)
        (IntOp.cmpi .ne s 0#32)) (IntOp.addi s 8#32) s = s := by
      rw [WordCmp.cmpi_ne_eq s, decide_eq_false (by simpa using hneg)]
      cases decide (s ≠ 0#32) <;> rfl
    rw [e]
    apply BitVec.eq_of_toNat_eq
    rw [hm]
    split at ht <;> rename_i hc
    · omega
    · simp only [not_or, Int.dvd_iff_emod_eq_zero] at hc
      omega

section Voxel

variable (x0 : (⟨S64x64x64, .f32⟩ : BufTy).Contents (Elt Ideal)) (x1 : (⟨S3x1x3x3x3, .f32⟩ : BufTy).Contents (Elt Ideal))
  (i : S78x78x78.Idx) (a b c : ℝ) (ha : val_main_v377 x0 x1 i = (a : EReal)) (hb : val_main_v253 x0 x1 i = (b : EReal))
  (hc : val_main_v256 x0 x1 i = (c : EReal)) (hs : val_main_v246 x0 x1 i = ((a * a + b * b + c * c : ℝ) : EReal))

include hs in
theorem size_real : val_main_v251 x0 x1 i = ((size a b c : ℝ) : EReal) := by
  have h : (0 : ℝ) ≤ (if 0 < a * a + b * b + c * c then a * a + b * b + c * c else 1) := by
    split
    · exact le_of_lt ‹_›
    · norm_num
  have e : val_main_v251 x0 x1 i = Scalar.select (FloatOps.cmpf .ogt (val_main_v246 x0 x1 i) (fl 0x00000000#32))
    (FloatOps.hostUnary .sqrt (Scalar.select (FloatOps.cmpf .ogt (val_main_v246 x0 x1 i) (fl 0x00000000#32))
      (val_main_v246 x0 x1 i) (fl 0x3F800000#32))) (fl 0x00000000#32) := rfl
  simp only [e, hs, Ideal.cmpf_def, fl, Ideal.ofBits_def, ofBits_zero, ofBits_one, Ideal.hostUnary_sqrt_def, select_gt, ite_real,
    sqrt_real _ h, size]

include hb hc hs in
theorem theta_real : val_main_v506 x0 x1 i = ((theta a b c : ℝ) : EReal) := by
  have e : val_main_v506 x0 x1 i = FloatOps.mulf (FloatOps.hostDivf (Scalar.select
      (FloatOps.cmpf .ogt (val_main_v246 x0 x1 i) (fl 0x00000000#32))
      (octants (Scalar.select (FloatOps.cmpf .ogt (val_main_v246 x0 x1 i) (fl 0x00000000#32)) (val_main_v253 x0 x1 i) (fl 0x00000000#32))
        (Scalar.select (FloatOps.cmpf .ogt (val_main_v246 x0 x1 i) (fl 0x00000000#32)) (val_main_v256 x0 x1 i) (fl 0x3F800000#32)))
      (fl 0x00000000#32)) (fl 0x40490FDB#32)) (fl 0x41000000#32) := rfl
  have hp : piLit ≠ 0 := by unfold piLit; norm_num
  simp only [e, hs, hb, hc, Ideal.cmpf_def, fl, Ideal.ofBits_def, ofBits_zero, ofBits_one, ofBits_pi, ofBits_eight, select_gt,
    ite_real, octants_real, Ideal.hostDivf_def, div_real _ _ hp, Ideal.mulf_def, mul_real, theta]
  congr 1
  rw [div_eq_mul_inv, mul_assoc, mul_comm (piLit)⁻¹]

include ha hs in
theorem ratio_real : val_main_v381 x0 x1 i = ((ratio a b c : ℝ) : EReal) := by
  have e : val_main_v381 x0 x1 i = FloatOps.minimumf (fl 0x3F7FFFEF#32) (FloatOps.maximumf (fl 0xBF7FFFEF#32)
    (FloatOps.hostDivf (val_main_v377 x0 x1 i) (FloatOps.addf (val_main_v251 x0 x1 i) (fl 0x25800000#32)))) := rfl
  have hp : size a b c + eps ≠ 0 := (add_pos_of_nonneg_of_pos (size_nonneg a b c) eps_pos).ne'
  simp only [e, ha, size_real x0 x1 i a b c hs, fl, Ideal.ofBits_def, ofBits_eps, ofBits_edge, ofBits_minus_edge,
    Ideal.addf_def, add_real, Ideal.hostDivf_def, div_real _ _ hp, Ideal.maximumf_def, Ideal.minimumf_def, max_real, min_real, ratio]

include ha hs in
theorem phi_real : val_main_v510 x0 x1 i = ((phi a b c : ℝ) : EReal) := by
  have e : val_main_v510 x0 x1 i = FloatOps.mulf (FloatOps.hostDivf (octants
      (FloatOps.hostUnary .sqrt (FloatOps.subf (fl 0x3F800000#32) (FloatOps.mulf (val_main_v381 x0 x1 i) (val_main_v381 x0 x1 i))))
      (val_main_v381 x0 x1 i)) (fl 0x40490FDB#32)) (fl 0x41000000#32) := rfl
  have hp : piLit ≠ 0 := by unfold piLit; norm_num
  have hr := ratio_sq a b c
  have hq : (1 - ratio a b c) * (1 + ratio a b c) = 1 - ratio a b c * ratio a b c := by ring
  rw [hq] at hr
  simp only [e, ratio_real x0 x1 i a b c ha hs, fl, Ideal.ofBits_def, ofBits_one, ofBits_pi, ofBits_eight, Ideal.subf_def,
    sub_real, Ideal.hostUnary_sqrt_def, sqrt_real _ hr,
    octants_real, Ideal.hostDivf_def, div_real _ _ hp, Ideal.mulf_def, mul_real, phi, hq]
  congr 1
  rw [div_eq_mul_inv, mul_assoc, mul_comm (piLit)⁻¹]

/-- A floored word, wrapped. -/
theorem lower_real (r : ℝ) (z : EReal) (h : z = (r : EReal)) :
    wrap (FloatOps.fptosi (F := Ideal) (φ := .f32) 32 (FloatOps.hostUnary (F := Ideal) .floor (z : Ideal .f32))) = lower r := by
  rw [wrap_eq, h]; rfl

theorem upper_real (r : ℝ) (z : EReal) (h : z = (r : EReal)) :
    wrap (FloatOps.fptosi (F := Ideal) (φ := .f32) 32 (FloatOps.hostUnary (F := Ideal) .ceil (z : Ideal .f32))) = upper r := by
  rw [wrap_eq, h]; rfl

include hb hc hs in
theorem theta_lower : val_main_v517 x0 x1 i = lower (theta a b c) :=
  lower_real _ (val_main_v506 x0 x1 i) (theta_real x0 x1 i a b c hb hc hs)
include hb hc hs in
theorem theta_upper : val_main_v520 x0 x1 i = upper (theta a b c) :=
  upper_real _ (val_main_v506 x0 x1 i) (theta_real x0 x1 i a b c hb hc hs)
include ha hs in
theorem phi_lower : val_main_v523 x0 x1 i = lower (phi a b c) :=
  lower_real _ (val_main_v510 x0 x1 i) (phi_real x0 x1 i a b c ha hs)
include ha hs in
theorem phi_upper : val_main_v526 x0 x1 i = upper (phi a b c) :=
  upper_real _ (val_main_v510 x0 x1 i) (phi_real x0 x1 i a b c ha hs)

include hb hc hs in
theorem theta_part : val_main_v512 x0 x1 i = ((part (theta a b c) : ℝ) : EReal) := by
  have e : val_main_v512 x0 x1 i = FloatOps.subf (val_main_v506 x0 x1 i) (trunc (val_main_v506 x0 x1 i)) := rfl
  rw [e, theta_real x0 x1 i a b c hb hc hs]
  exact trunc_real _
include ha hs in
theorem phi_part : val_main_v514 x0 x1 i = ((part (phi a b c) : ℝ) : EReal) := by
  have e : val_main_v514 x0 x1 i = FloatOps.subf (val_main_v510 x0 x1 i) (trunc (val_main_v510 x0 x1 i)) := rfl
  rw [e, phi_real x0 x1 i a b c ha hs]
  exact trunc_real _

/-- The four products of the shares. -/
theorem abs_part (z : EReal) (r : ℝ) (h : z = (r : EReal)) : FloatOps.hostAbsf (F := Ideal) (φ := .f32) z = ((|r| : ℝ) : EReal) := by
  rw [h]; exact abs_real r

theorem abs_rest (z : EReal) (r : ℝ) (h : z = (r : EReal)) :
    FloatOps.hostAbsf (F := Ideal) (φ := .f32) (FloatOps.subf (fl 0x3F800000#32) z) = ((|1 - r| : ℝ) : EReal) := by
  rw [h]
  simp only [fl, Ideal.ofBits_def, ofBits_one, Ideal.subf_def, sub_real]
  exact abs_real (1 - r)

include ha hb hc hs in
theorem shares_real :
    val_main_v543 x0 x1 i = ((|part (theta a b c)| * |part (phi a b c)| : ℝ) : EReal)
    ∧ val_main_v565 x0 x1 i = ((|part (theta a b c)| * |1 - part (phi a b c)| : ℝ) : EReal)
    ∧ val_main_v587 x0 x1 i = ((|1 - part (theta a b c)| * |part (phi a b c)| : ℝ) : EReal)
    ∧ val_main_v609 x0 x1 i = ((|1 - part (theta a b c)| * |1 - part (phi a b c)| : ℝ) : EReal) := by
  have t := theta_part x0 x1 i a b c hb hc hs
  have p := phi_part x0 x1 i a b c ha hs
  have t0 : val_main_v527 x0 x1 i = _ := abs_part _ _ t
  have t1 : val_main_v530 x0 x1 i = _ := abs_rest _ _ t
  have p0 : val_main_v531 x0 x1 i = _ := abs_part _ _ p
  have p1 : val_main_v534 x0 x1 i = _ := abs_rest _ _ p
  refine ⟨?_, ?_, ?_, ?_⟩
  · exact (congrArg₂ (· * ·) t0 p0).trans (mul_real _ _)
  · exact (congrArg₂ (· * ·) t0 p1).trans (mul_real _ _)
  · exact (congrArg₂ (· * ·) t1 p0).trans (mul_real _ _)
  · exact (congrArg₂ (· * ·) t1 p1).trans (mul_real _ _)

end Voxel

end Cert.Hog.Ref

end
-- ==== Proof.RefSlopes.lean ====
/-  The reference's gradient: under the precondition the correlation's three channels are the slopes of Mean.lean. -/
module

public import proofs.«01_k».proof.Proof.Gen.ReferenceIdeal.Read
public import proofs.«01_k».proof.Proof.Gen.Pre_finite_and_central
public import proofs.«01_k».proof.Proof.Mean

@[expose] public section

set_option maxRecDepth 16384

noncomputable section

namespace Cert.Hog.Ref

open Idealize.ShloMosaic Cert.ReferenceIdeal Cert.ReferenceIdeal.Gen Cert.ReferenceIdeal.Read

/-- The weight of channel k at the tap (a, b, c): the central difference along the channel's axis. -/
def weight (k a b c : Fin 3) : ℤ :=
  match k with
  | 0 => if b = 1 ∧ c = 1 then (a.val : ℤ) - 1 else 0
  | 1 => if a = 1 ∧ c = 1 then (b.val : ℤ) - 1 else 0
  | 2 => if a = 1 ∧ b = 1 then (c.val : ℤ) - 1 else 0

section Pre

variable (x : (⟨S64x64x64, .f32⟩ : BufTy).Contents (Elt Ideal)) (w : (⟨S3x1x3x3x3, .f32⟩ : BufTy).Contents (Elt Ideal))

theorem ofBits_top : Ideal.ofBits .f32 0x7F800000#32 = ⊤ := by
  simp [Ideal.ofBits, Ideal.ieee]

/-- The first part of the precondition: every element of the volume is real. -/
theorem finite_of (h : (Cert.Pre_finite_and_central.fn (F := Ideal) x w).1 = fun _ => 1#1) (i : S64x64x64.Idx) :
    ∃ r : ℝ, x i = (r : EReal) := by
  have e : FloatOps.cmpf (F := Ideal) (φ := .f32) .olt (FloatOps.hostAbsf (F := Ideal) (φ := .f32) (x i))
    (FloatOps.ofBits (F := Ideal) .f32 0x7F800000#32) = 1#1 := congrFun h i
  rw [Ideal.cmpf_def, Ideal.ofBits_def, ofBits_top, Ideal.hostAbsf_def, Ideal.absf_def] at e
  generalize x i = z at e
  induction z using EReal.rec with
  | bot => simp [Ideal.cmp] at e
  | top => simp [Ideal.cmp] at e
  | coe r => exact ⟨r, rfl⟩

/-- The second part: the weights are the central differences. -/
theorem weight_of (h : (Cert.Pre_finite_and_central.fn (F := Ideal) x w).2 = fun _ => 1#1) (k a b c : Fin 3) :
    w (ix5 k 0 a b c) = (((weight k a b c : ℤ) : ℝ) : EReal) := by
  have e : ∃ z : IVec S3x1x3x3x3 32, (Cert.Pre_finite_and_central.fn (F := Ideal) x w).2 = cmpf (F := Ideal) (φ := .f32) .oeq w (sitofp .f32 z)
      ∧ ∀ k a b c : Fin 3, (z (ix5 k 0 a b c)).toInt = weight k a b c := by
    refine ⟨?_, ?h1, ?h2⟩
    case h1 =>
      dsimp only [Cert.Pre_finite_and_central.fn, Cert.Pre_finite_and_central.fn_part1]
      rfl
    case h2 => decide +kernel
  obtain ⟨z, ez, hz⟩ := e
  have e : Ideal.cmp .oeq (w (ix5 k 0 a b c)) (((z (ix5 k 0 a b c)).toInt : ℝ) : EReal) = 1#1 :=
    congrFun (ez.symm.trans h) (ix5 k 0 a b c)
  rw [hz] at e
  by_contra hn
  simp [Ideal.cmp, hn] at e

end Pre

/-- One tap of the correlation: a weight of every channel times the volume, shifted. -/
def tap (X : FVec Ideal S80x80x80 .f32) (W : FVec Ideal S3x1x3x3x3 .f32) (a b c : ℕ)
    (hw : S3x1x3x3x3.Slices ![0, 0, a, b, c] S3x1x1x1x1) (hx : S80x80x80.Slices ![a, b, c] S78x78x78) :
    FVec Ideal S3x78x78x78 .f32 :=
  mulf (broadcastInDim S3x78x78x78 ![0, 1, 2, 3] bcast_S3x1x1x1_S3x78x78x78_0_1_2_3
      (shapeCast S3x1x1x1 (shapeCast S3 (extractStridedSlice S3x1x1x1x1 ![0, 0, a, b, c] W hw) shapeCasts_S3x1x1x1x1_S3)
        shapeCasts_S3_S3x1x1x1))
    (broadcastInDim S3x78x78x78 ![0, 1, 2, 3] bcast_S1x78x78x78_S3x78x78x78_0_1_2_3
      (broadcastInDim S1x78x78x78 ![1, 2, 3] bcast_S78x78x78_S1x78x78x78_1_2_3
        (extractStridedSlice S78x78x78 ![a, b, c] X hx)))

theorem tap_apply (X : FVec Ideal S80x80x80 .f32) (W : FVec Ideal S3x1x3x3x3 .f32) (a b c : Fin 3)
    (hw : S3x1x3x3x3.Slices ![0, 0, a.val, b.val, c.val] S3x1x1x1x1) (hx : S80x80x80.Slices ![a.val, b.val, c.val] S78x78x78)
    (k : Fin 3) (d h w : Fin 78) :
    tap X W a b c hw hx (ix4 k d h w)
      = W (ix5 k 0 a b c) * X (ix3 ⟨a + d.val, by omega⟩ ⟨b + h.val, by omega⟩ ⟨c + w.val, by omega⟩) := by
  unfold tap
  refine congrArg₂ (· * ·) ?_ ?_
  · refine (broadcastInDim_apply _ _ _ _ (ix4 k 0 0 0) ?_).trans ?_
    · intro q; fin_cases q <;> rfl
    refine (shapeCast_apply _ _ _ (ix1 k) ?_).trans ?_
    · rw [Shape.rowMajor_val_one, Shape.rowMajor_val_four]
      show k.val = ((k.val * 1 + 0) * 1 + 0) * 1 + 0
      omega
    refine (shapeCast_apply _ _ _ (ix5 k 0 0 0 0) ?_).trans ?_
    · rw [Shape.rowMajor_val_one, Shape.rowMajor_val_five]
      show (((k.val * 1 + 0) * 1 + 0) * 1 + 0) * 1 + 0 = k.val
      omega
    refine extractStridedSlice_apply _ _ _ _ (ix5 k 0 a b c) ?_
    intro q
    fin_cases q
    · show k.val = 0 + k.val; omega
    · rfl
    · rfl
    · rfl
    · rfl
  · refine (broadcastInDim_apply _ _ _ _ (ix4 0 d h w) ?_).trans ?_
    · intro q; fin_cases q <;> rfl
    refine (broadcastInDim_apply _ _ _ _ (ix3 d h w) ?_).trans ?_
    · intro q; fin_cases q <;> rfl
    refine extractStridedSlice_apply _ _ _ _ (ix3 ⟨a + d.val, by omega⟩ ⟨b + h.val, by omega⟩ ⟨c + w.val, by omega⟩) ?_
    intro q
    fin_cases q <;> rfl

variable (x0 : (⟨S64x64x64, .f32⟩ : BufTy).Contents (Elt Ideal)) (x1 : (⟨S3x1x3x3x3, .f32⟩ : BufTy).Contents (Elt Ideal))

/-- The taps, added one after another. -/
def taps (X : FVec Ideal S80x80x80 .f32) (W : FVec Ideal S3x1x3x3x3 .f32) : List (FVec Ideal S3x78x78x78 .f32) :=
  (List.finRange 27).map fun n => tap X W (n.val / 9) (n.val / 3 % 3) (n.val % 3)
    ((by decide : ∀ n : Fin 27, S3x1x3x3x3.Slices ![0, 0, n.val / 9, n.val / 3 % 3, n.val % 3] S3x1x1x1x1) n)
    ((by decide : ∀ n : Fin 27, S80x80x80.Slices ![n.val / 9, n.val / 3 % 3, n.val % 3] S78x78x78) n)

theorem v244_eq : val_main_v244 x0 x1 = (taps (val_main_v0 x0) x1).foldl addf (val_main_v1 (F := Ideal)) := by
  rfl

/-- Adding reals to a real, one after another. -/
theorem foldl_real {ι : Type} (f : ι → FVec Ideal S3x78x78x78 .f32) (g : ι → ℝ) (i : S3x78x78x78.Idx)
    (h : ∀ n, f n i = ((g n : ℝ) : EReal)) (l : List ι) (z : FVec Ideal S3x78x78x78 .f32) (r : ℝ) (hz : z i = (r : EReal)) :
    (l.map f).foldl addf z i = ((r + (l.map g).sum : ℝ) : EReal) := by
  induction l generalizing z r with
  | nil => simpa using hz
  | cons n l ih =>
    rw [List.map_cons, List.foldl_cons, ih (addf z (f n)) (r + g n) ?_]
    · rw [List.map_cons, List.sum_cons, add_assoc]
    · exact (congrArg₂ (· + ·) hz (h n)).trans (add_real _ _)

variable (hx : ∀ i, ∃ r : ℝ, x0 i = (r : EReal)) (hw : ∀ k a b c : Fin 3, x1 (ix5 k 0 a b c) = (((weight k a b c : ℤ) : ℝ) : EReal))

include hx in
theorem v0_real (i j k : Fin 80) : val_main_v0 x0 (ix3 i j k) = ((around x0 i j k : ℝ) : EReal) := by
  refine pad_around _ x0 (val_main_call0_v0 (F := Ideal)) _ _ ?_ hx i j k
  show (((0#32 : BitVec 32).toInt : ℝ) : EReal) = 0
  simp

include hx hw in
theorem v244_real (k : Fin 3) (d h w : Fin 78) : val_main_v244 x0 x1 (ix4 k d h w)
    = (((List.finRange 27).map fun n : Fin 27 => ((weight k ⟨n / 9, by omega⟩ ⟨n / 3 % 3, by omega⟩ ⟨n % 3, by omega⟩ : ℤ) : ℝ)
        * around x0 (n / 9 + d) (n / 3 % 3 + h) (n % 3 + w)).sum : ℝ) := by
  rw [v244_eq]
  refine (foldl_real _ (fun n : Fin 27 => ((weight k ⟨n / 9, by omega⟩ ⟨n / 3 % 3, by omega⟩ ⟨n % 3, by omega⟩ : ℤ) : ℝ)
        * around x0 (n / 9 + d) (n / 3 % 3 + h) (n % 3 + w)) (ix4 k d h w) ?_ _ _ 0 ofBits_zero).trans ?_
  · intro n
    refine (tap_apply _ _ ⟨n / 9, by omega⟩ ⟨n / 3 % 3, by omega⟩ ⟨n % 3, by omega⟩ _ _ k d h w).trans ?_
    rw [hw, v0_real x0 hx, mul_real]
  · rw [zero_add]

include hx hw in
theorem slopes_real (d h w : Fin 78) :
    val_main_v244 x0 x1 (ix4 0 d h w) = ((slopeA x0 d h w : ℝ) : EReal)
    ∧ val_main_v244 x0 x1 (ix4 1 d h w) = ((slopeB x0 d h w : ℝ) : EReal)
    ∧ val_main_v244 x0 x1 (ix4 2 d h w) = ((slopeC x0 d h w : ℝ) : EReal) := by
  refine ⟨?_, ?_, ?_⟩
  all_goals
    rw [v244_real x0 x1 hx hw]
    congr 1
    simp [List.finRange_succ, weight, slopeA, slopeB, slopeC]
    simp only [Nat.add_comm 1, Nat.add_comm 2]
    ring

theorem idx246 (d h w : Fin 78) (k : Fin 3) : idx_main_v246 (ix3 d h w) k = ix4 k d h w := by
  funext a; fin_cases a <;> rfl

/-- The three channels of the gradient and the square of its size, at a voxel. -/
theorem channels (d h w : Fin 78) :
    val_main_v377 x0 x1 (ix3 d h w) = val_main_v244 x0 x1 (ix4 0 d h w)
    ∧ val_main_v253 x0 x1 (ix3 d h w) = val_main_v244 x0 x1 (ix4 1 d h w)
    ∧ val_main_v256 x0 x1 (ix3 d h w) = val_main_v244 x0 x1 (ix4 2 d h w) := by
  have e : ∀ (X : FVec Ideal S3x78x78x78 .f32) (k : Fin 3) (hs : S3x78x78x78.Slices ![k.val, 0, 0, 0] S1x78x78x78),
      shapeCast S78x78x78 (extractStridedSlice S1x78x78x78 ![k.val, 0, 0, 0] X hs) shapeCasts_S1x78x78x78_S78x78x78 (ix3 d h w)
        = X (ix4 k d h w) := by
    intro X k hs
    refine (shapeCast_apply _ _ _ (ix4 0 d h w) ?_).trans ?_
    · rw [Shape.rowMajor_val_three, Shape.rowMajor_val_four]
      show ((0 * 78 + d.val) * 78 + h.val) * 78 + w.val = (d.val * 78 + h.val) * 78 + w.val
      omega
    refine extractStridedSlice_apply _ _ _ _ (ix4 k d h w) ?_
    intro q
    fin_cases q
    · rfl
    · show d.val = 0 + d.val; omega
    · show h.val = 0 + h.val; omega
    · show w.val = 0 + w.val; omega
  exact ⟨e _ 0 _, e _ 1 _, e _ 2 _⟩

include hx hw in
theorem gradient_real (d h w : Fin 78) :
    val_main_v377 x0 x1 (ix3 d h w) = ((slopeA x0 d h w : ℝ) : EReal)
    ∧ val_main_v253 x0 x1 (ix3 d h w) = ((slopeB x0 d h w : ℝ) : EReal)
    ∧ val_main_v256 x0 x1 (ix3 d h w) = ((slopeC x0 d h w : ℝ) : EReal)
    ∧ val_main_v246 x0 x1 (ix3 d h w) = ((slopeA x0 d h w * slopeA x0 d h w + slopeB x0 d h w * slopeB x0 d h w
        + slopeC x0 d h w * slopeC x0 d h w : ℝ) : EReal) := by
  obtain ⟨a, b, c⟩ := slopes_real x0 x1 hx hw d h w
  obtain ⟨ea, eb, ec⟩ := channels x0 x1 d h w
  refine ⟨ea.trans a, eb.trans b, ec.trans c, ?_⟩
  rw [val_main_v246_apply, Fin.sum_univ_three, idx246, idx246, idx246]
  simp only [val_main_v245_apply, a, b, c, Ideal.mulf_def, mul_real, add_real]
  refine (congrArg (· + _) ofBits_zero).trans ?_
  rw [add_real, zero_add]

end Cert.Hog.Ref

end
-- ==== Proof.RefHist.lean ====
/-  The reference's histogram: four scatter-adds of the voxels' shares into 64 rows leave, at one row and one voxel,
    the vote of Mean.lean. -/
module

public import proofs.«01_k».proof.Proof.RefAngles
public import proofs.«01_k».proof.Proof.RefSlopes
public import Idealize.ShloMosaic.Lib.Routing.OpsPair
public import Idealize.ShloMosaic.Lib.Pipeline.Value

@[expose] public section

set_option maxRecDepth 16384

noncomputable section

namespace Cert.Hog.Ref

open Idealize.ShloMosaic Cert.ReferenceIdeal Cert.ReferenceIdeal.Read Cert.ReferenceIdeal.Facts₀

/-- The scatter's dimension numbers. -/
abbrev dims : ScatterDims S64x474552 S474552x2 S474552 := scatter_S64x474552_S474552x2_S474552_n_01_01_1

/-- Where an update goes along each axis of the histogram: to what its row of index words says. -/
theorem start_at (idx : IVec S474552x2 32) (k : Fin 474552) (q : Fin 2) :
    dims.start (ix1 k) idx q = (idx (ix2 k q)).toInt := by
  have hm : q ∈ dims.scatterDimsToOperandDims := by
    show q ∈ ([0, 1] : List (Fin 2))
    fin_cases q <;> simp
  unfold ScatterDims.start
  refine (dif_pos hm).trans ?_
  refine congrArg (fun j => (idx j).toInt) ?_
  funext a
  fin_cases q <;> fin_cases a <;> rfl

theorem window_at (k : Fin 474552) (q : Fin 2) : dims.window (ix1 k) q = 0 := by
  unfold ScatterDims.window
  refine dif_neg ?_
  show q ∉ S64x474552.kept [0, 1]
  fin_cases q <;> decide

/-- The update of voxel k lands in row r and column n exactly when its two words are r and n. -/
theorem lands (idx : IVec S474552x2 32) (k : Fin 474552) (r : Fin 64) (n : Fin 474552) :
    dims.resultIdx? (ix1 k) idx = some (ix2 r n)
      ↔ (idx (ix2 k (0 : Fin 2))).toInt = (r.val : Int) ∧ (idx (ix2 k (1 : Fin 2))).toInt = (n.val : Int) := by
  rw [Routing.resultIdx?_eq_some]
  constructor
  · intro h
    have h0 := h (0 : Fin 2)
    have h1 := h (1 : Fin 2)
    rw [start_at, window_at] at h0 h1
    exact ⟨by simpa using h0, by simpa using h1⟩
  · rintro ⟨h0, h1⟩ a
    rw [start_at, window_at]
    match a with
    | ⟨0, _⟩ => simpa using h0
    | ⟨1, _⟩ => simpa using h1

/-- A scatter whose second index word is the voxel's own number adds at most one update to an element. -/
theorem scatter_at (H : FVec Ideal S64x474552 .f32) (idx : IVec S474552x2 32) (u : FVec Ideal S474552 .f32)
    (hi : ∀ k : Fin 474552, (idx (ix2 k (1 : Fin 2))).toInt = (k.val : Int)) (r : Fin 64) (n : Fin 474552) :
    Host.scatterAdd dims H idx u (ix2 r n)
      = H (ix2 r n) + (if (idx (ix2 n (0 : Fin 2))).toInt = (r.val : Int) then u (ix1 n) else 0 : EReal) := by
  show (H (ix2 r n) + ∑ j ∈ Finset.univ.filter (fun j => dims.resultIdx? j idx = some (ix2 r n)), u j : EReal) = _
  refine congrArg (fun z : EReal => (H (ix2 r n) : EReal) + z) ?_
  rw [Finset.sum_filter]
  refine (Finset.sum_eq_single (ix1 n) ?_ ?_).trans ?_
  · intro j _ hj
    refine if_neg fun h => hj ?_
    obtain ⟨k, rfl⟩ : ∃ k : Fin 474552, j = ix1 k := ⟨j 0, by funext a; fin_cases a; rfl⟩
    have h1 := ((lands idx k r n).1 h).2
    rw [hi k] at h1
    have : k = n := Fin.ext (by exact_mod_cast h1)
    rw [this]
  · intro h; exact absurd (Finset.mem_univ _) h
  · have e := lands idx n r n
    simp only [hi n, and_true] at e
    by_cases h : (idx (ix2 n (0 : Fin 2))).toInt = (r.val : Int)
    · rw [if_pos h, if_pos (e.2 h)]
    · rw [if_neg h, if_neg fun q => h (e.1 q)]

/-- The number of a voxel. -/
def number (d h w : Fin 78) : Fin 474552 := ⟨(d.val * 78 + h.val) * 78 + w.val, by omega⟩

/-- A word of the index, one below zero counted from the end. -/
def fromEnd (z n : IVec S474552 32) : IVec S474552 32 :=
  select (cmpi .slt z (broadcastInDim S474552 ![] bcast_S_S474552 (constantI S_ 32 0#32))) (addi z n) z

/-- The row of each voxel: eight times one angle's bin and the other's. -/
def rows (t p : IVec S78x78x78 32) : IVec S474552 32 :=
  addi (muli (shapeCast _ t shapeCasts_S78x78x78_S474552) (broadcastInDim S474552 ![] bcast_S_S474552 (constantI S_ 32 8#32)))
    (shapeCast _ p shapeCasts_S78x78x78_S474552)

def every (b : BitVec 32) : IVec S474552 32 := broadcastInDim S474552 ![] bcast_S_S474552 (constantI S_ 32 b)

/-- The two index words of each voxel. -/
def words (t p : IVec S78x78x78 32) : IVec S474552x2 32 :=
  concatenate S474552x2 1
    [⟨S474552x1, broadcastInDim S474552x1 ![0] bcast_S474552_S474552x1_0 (fromEnd (rows t p) (every 64#32))⟩,
     ⟨S474552x1, broadcastInDim S474552x1 ![0] bcast_S474552_S474552x1_0
        (fromEnd (iotaInDim S474552 32 0) (every 474552#32))⟩]
    concatenates_S474552x1_S474552x1_S474552x2_d1

/-- One scatter: the shares u times the sizes g, to the bins t and p. -/
def scattered (H : FVec Ideal S64x474552 .f32) (t p : IVec S78x78x78 32) (u g : FVec Ideal S78x78x78 .f32) :
    FVec Ideal S64x474552 .f32 :=
  Host.scatterAdd dims H (words t p)
    (mulf (shapeCast _ u shapeCasts_S78x78x78_S474552) (shapeCast _ g shapeCasts_S78x78x78_S474552))

theorem flat_at {α : Type} (X : S78x78x78.Idx → α) (d h w : Fin 78) :
    shapeCast S474552 X shapeCasts_S78x78x78_S474552 (ix1 (number d h w)) = X (ix3 d h w) := by
  refine shapeCast_apply _ _ _ (ix3 d h w) ?_
  rw [Shape.rowMajor_val_three, Shape.rowMajor_val_one]
  rfl

theorem column_at (x : IVec S474552 32) (k : Fin 474552) :
    broadcastInDim S474552x1 ![0] bcast_S474552_S474552x1_0 x (ix2 k (0 : Fin 1)) = x (ix1 k) := by
  refine broadcastInDim_apply _ _ _ _ (ix1 k) ?_
  intro a
  match a with
  | ⟨0, _⟩ => show k.val = if (474552 : Nat) = 1 then 0 else k.val; rw [if_neg (by decide)]

theorem words_row (t p : IVec S78x78x78 32) (k : Fin 474552) :
    words t p (ix2 k (0 : Fin 2)) = fromEnd (rows t p) (every 64#32) (ix1 k) := by
  refine (concatenate_pair_apply_left (t := S474552x2) (s₁ := S474552x1) (s₂ := S474552x1) 1 _ _ _ _ rfl
    (ix2 k (0 : Fin 1)) ?_).trans (column_at _ k)
  intro b
  match b with
  | ⟨0, _⟩ => rfl
  | ⟨1, _⟩ => rfl

theorem words_voxel (t p : IVec S78x78x78 32) (k : Fin 474552) :
    words t p (ix2 k (1 : Fin 2)) = fromEnd (iotaInDim S474552 32 0) (every 474552#32) (ix1 k) := by
  refine (concatenate_pair_apply_right (t := S474552x2) (s₁ := S474552x1) (s₂ := S474552x1) 1 _ _ _ _ rfl rfl
    (ix2 k (0 : Fin 1)) ?_ rfl).trans (column_at _ k)
  intro b hb
  match b with
  | ⟨0, _⟩ => rfl
  | ⟨1, _⟩ => exact absurd rfl hb

theorem fromEnd_at (z n : IVec S474552 32) (k : Fin 474552) (h : (z (ix1 k)).toNat < 2 ^ 31) :
    fromEnd z n (ix1 k) = z (ix1 k) := Routing.wrap_of_lt _ _ h

/-- The second word of a voxel is its number. -/
theorem voxel_word (t p : IVec S78x78x78 32) (k : Fin 474552) :
    (words t p (ix2 k (1 : Fin 2))).toInt = (k.val : Int) := by
  have hk := k.isLt
  have e : iotaInDim S474552 32 0 (ix1 k) = BitVec.ofNat 32 k.val := rfl
  have hn : (BitVec.ofNat 32 k.val).toNat = k.val := by rw [BitVec.toNat_ofNat]; exact Nat.mod_eq_of_lt (by omega)
  rw [words_voxel, fromEnd_at _ _ _ (by rw [e, hn]; omega), e, BitVec.toInt_eq_toNat_of_lt (by rw [hn]; omega), hn]

/-- The first word of a voxel is its row. -/
theorem row_word (t p : IVec S78x78x78 32) (d h w : Fin 78)
    (ht : (t (ix3 d h w)).toNat < 8) (hp : (p (ix3 d h w)).toNat < 8) :
    (words t p (ix2 (number d h w) (0 : Fin 2))).toInt
      = (((t (ix3 d h w)).toNat * 8 + (p (ix3 d h w)).toNat : Nat) : Int) := by
  have e : rows t p (ix1 (number d h w)) = t (ix3 d h w) * 8#32 + p (ix3 d h w) :=
    congrArg₂ (fun a b : BitVec 32 => a * 8#32 + b) (flat_at t d h w) (flat_at p d h w)
  have hn : (t (ix3 d h w) * 8#32 + p (ix3 d h w)).toNat = (t (ix3 d h w)).toNat * 8 + (p (ix3 d h w)).toNat := by
    rw [BitVec.toNat_add, BitVec.toNat_mul]
    show ((t (ix3 d h w)).toNat * 8 % 2 ^ 32 + (p (ix3 d h w)).toNat) % 2 ^ 32 = _
    omega
  rw [words_row, fromEnd_at _ _ _ (by rw [e, hn]; omega), e, BitVec.toInt_eq_toNat_of_lt (by rw [hn]; omega), hn]

/-- One scatter at one row and one voxel. -/
theorem scattered_at (H : FVec Ideal S64x474552 .f32) (t p : IVec S78x78x78 32) (u g : FVec Ideal S78x78x78 .f32)
    (r : Fin 64) (d h w : Fin 78) (ht : (t (ix3 d h w)).toNat < 8) (hp : (p (ix3 d h w)).toNat < 8)
    (y a s : ℝ) (hH : H (ix2 r (number d h w)) = (y : EReal)) (hu : u (ix3 d h w) = (a : EReal)) (hg : g (ix3 d h w) = (s : EReal)) :
    scattered H t p u g (ix2 r (number d h w))
      = ((y + (if BitVec.ofNat 32 (r.val / 8) = t (ix3 d h w) ∧ BitVec.ofNat 32 (r.val % 8) = p (ix3 d h w)
          then a * s else 0) : ℝ) : EReal) := by
  have hr := r.isLt
  refine (scatter_at _ _ _ (voxel_word t p) _ _).trans ?_
  have hv : mulf (F := Ideal) (φ := .f32) (shapeCast _ u shapeCasts_S78x78x78_S474552)
      (shapeCast _ g shapeCasts_S78x78x78_S474552) (ix1 (number d h w)) = ((a * s : ℝ) : EReal) := by
    refine (congrArg₂ (fun x y : EReal => x * y) ((flat_at u d h w).trans hu) ((flat_at g d h w).trans hg)).trans ?_
    exact mul_real _ _
  rw [hv, hH, row_word t p d h w ht hp]
  have c : (((t (ix3 d h w)).toNat * 8 + (p (ix3 d h w)).toNat : Nat) : Int) = (r.val : Int)
      ↔ (BitVec.ofNat 32 (r.val / 8) = t (ix3 d h w) ∧ BitVec.ofNat 32 (r.val % 8) = p (ix3 d h w)) := by
    rw [← BitVec.toNat_inj, ← BitVec.toNat_inj, BitVec.toNat_ofNat, BitVec.toNat_ofNat,
      Nat.mod_eq_of_lt (show r.val / 8 < 2 ^ 32 by omega), Nat.mod_eq_of_lt (show r.val % 8 < 2 ^ 32 by omega)]
    omega
  by_cases q : BitVec.ofNat 32 (r.val / 8) = t (ix3 d h w) ∧ BitVec.ofNat 32 (r.val % 8) = p (ix3 d h w)
  · rw [if_pos (c.2 q), if_pos q, add_real]
  · rw [if_neg fun z => q (c.1 z), if_neg q, add_zero, add_zero]

/-- The four shares of a voxel, added up. -/
theorem four (A0 A1 B0 B1 : Prop) [Decidable A0] [Decidable A1] [Decidable B0] [Decidable B1] (a0 a1 b0 b1 s : ℝ) :
    0 + (if A0 ∧ B0 then a0 * b0 * s else 0) + (if A0 ∧ B1 then a0 * b1 * s else 0)
        + (if A1 ∧ B0 then a1 * b0 * s else 0) + (if A1 ∧ B1 then a1 * b1 * s else 0)
      = ((if A0 then a0 else 0) + (if A1 then a1 else 0)) * s * ((if B0 then b0 else 0) + (if B1 then b1 else 0)) := by
  by_cases h0 : A0 <;> by_cases h1 : A1 <;> by_cases k0 : B0 <;> by_cases k1 : B1 <;>
    simp only [h0, h1, k0, k1, and_self, and_true, and_false, if_true, if_false] <;> ring

theorem bins_lt (z : BitVec 32) : (z &&& 7#32).toNat < 8 := by
  rw [and_seven]; exact Nat.mod_lt _ (by decide)

section Volume

variable (x0 : (⟨S64x64x64, .f32⟩ : BufTy).Contents (Elt Ideal)) (x1 : (⟨S3x1x3x3x3, .f32⟩ : BufTy).Contents (Elt Ideal))

theorem v559_eq : val_main_v559 x0 x1 = scattered (val_main_v537 (F := Ideal)) (val_main_v517 x0 x1) (val_main_v523 x0 x1)
    (val_main_v543 x0 x1) (val_main_v251 x0 x1) := rfl
theorem v581_eq : val_main_v581 x0 x1 = scattered (val_main_v559 x0 x1) (val_main_v517 x0 x1) (val_main_v526 x0 x1)
    (val_main_v565 x0 x1) (val_main_v251 x0 x1) := rfl
theorem v603_eq : val_main_v603 x0 x1 = scattered (val_main_v581 x0 x1) (val_main_v520 x0 x1) (val_main_v523 x0 x1)
    (val_main_v587 x0 x1) (val_main_v251 x0 x1) := rfl
theorem v625_eq : val_main_v625 x0 x1 = scattered (val_main_v603 x0 x1) (val_main_v520 x0 x1) (val_main_v526 x0 x1)
    (val_main_v609 x0 x1) (val_main_v251 x0 x1) := rfl

variable (hx : ∀ i, ∃ r : ℝ, x0 i = (r : EReal))
  (hw : ∀ (k : Fin 3) (a b c : Fin 3), x1 (ix5 k 0 a b c) = (((weight k a b c : ℤ) : ℝ) : EReal))

include hx hw in
/-- The histogram before the boxes: each row at each voxel has the vote. -/
theorem votes_real (r : Fin 64) (d h w : Fin 78) :
    val_main_v625 x0 x1 (ix2 r (number d h w)) = ((vote x0 r d h w : ℝ) : EReal) := by
  obtain ⟨ha, hb, hc, hs⟩ := gradient_real x0 x1 hx hw d h w
  have t0 := theta_lower x0 x1 _ _ _ _ hb hc hs
  have t1 := theta_upper x0 x1 _ _ _ _ hb hc hs
  have p0 := phi_lower x0 x1 _ _ _ _ ha hs
  have p1 := phi_upper x0 x1 _ _ _ _ ha hs
  have g := size_real x0 x1 _ _ _ _ hs
  obtain ⟨u0, u1, u2, u3⟩ := shares_real x0 x1 _ _ _ _ ha hb hc hs
  have lt : ∀ {z : BitVec 32} {q : ℝ}, z = lower q → z.toNat < 8 := fun e => by rw [e]; exact bins_lt _
  have ut : ∀ {z : BitVec 32} {q : ℝ}, z = upper q → z.toNat < 8 := fun e => by rw [e]; exact bins_lt _
  have z : val_main_v537 (F := Ideal) (ix2 r (number d h w)) = ((0 : ℝ) : EReal) := ofBits_zero.trans EReal.coe_zero.symm
  have s1 := (congrFun (v559_eq x0 x1) _).trans
    (scattered_at _ _ _ _ _ r d h w (lt t0) (lt p0) _ _ _ z u0 g)
  have s2 := (congrFun (v581_eq x0 x1) _).trans
    (scattered_at _ _ _ _ _ r d h w (lt t0) (ut p1) _ _ _ s1 u1 g)
  have s3 := (congrFun (v603_eq x0 x1) _).trans
    (scattered_at _ _ _ _ _ r d h w (ut t1) (lt p0) _ _ _ s2 u2 g)
  have s4 := (congrFun (v625_eq x0 x1) _).trans
    (scattered_at _ _ _ _ _ r d h w (ut t1) (ut p1) _ _ _ s3 u3 g)
  refine s4.trans (congrArg _ ?_)
  rw [t0, t1, p0, p1, four]
  rfl

end Volume

end Cert.Hog.Ref

end
-- ==== Proof.RefBox.lean ====
/-  The reference's boxes: three windows of 15 positions, one along each axis, over the histogram and over ones, and
    the quotient of the two: the mean of Mean.lean. -/
module

public import proofs.«01_k».proof.Proof.RefHist

@[expose] public section

set_option maxRecDepth 16384

noncomputable section

namespace Cert.Hog.Ref

open Idealize.ShloMosaic Cert.ReferenceIdeal Cert.ReferenceIdeal.Read Cert.ReferenceIdeal.Facts₀

/-- Adding reals up one after another. -/
theorem fold_real {ι : Type} (l : List ι) (f : ι → EReal) (g : ι → ℝ) (h : ∀ n, f n = (g n : EReal)) (y : ℝ) :
    l.foldl (fun r n => r + f n) (y : EReal) = ((y + (l.map g).sum : ℝ) : EReal) := by
  induction l generalizing y with
  | nil => simp
  | cons a l ih =>
    rw [List.foldl_cons, h a, add_real, ih, List.map_cons, List.sum_cons, add_assoc]

/-- The 15 positions around one, out of 78: those outside the axis give nothing. -/
theorem fifteen (f : ℕ → ℝ) (b : ℕ) (hb : b < 78) :
    (∑ k : Fin 15, if 7 ≤ b + k.val ∧ b + k.val - 7 < 78 then f (b + k.val - 7) else 0)
      = ∑ c : Fin 78, near c b * f c := by
  simp only [near, ite_mul, one_mul, zero_mul]
  rw [← Finset.sum_filter, ← Finset.sum_filter]
  refine Finset.sum_bij' (fun k hk => ⟨b + k.val - 7, (Finset.mem_filter.1 hk).2.2⟩)
    (fun c hc => ⟨c.val + 7 - b, by have := (Finset.mem_filter.1 hc).2; omega⟩) ?_ ?_ ?_ ?_ ?_
  · intro k hk
    have h := (Finset.mem_filter.1 hk).2
    have := k.isLt
    refine Finset.mem_filter.2 ⟨Finset.mem_univ _, ?_⟩
    show b + k.val - 7 ≤ b + 7 ∧ b ≤ b + k.val - 7 + 7
    omega
  · intro c hc
    have h := (Finset.mem_filter.1 hc).2
    have := c.isLt
    refine Finset.mem_filter.2 ⟨Finset.mem_univ _, ?_⟩
    show 7 ≤ b + (c.val + 7 - b) ∧ b + (c.val + 7 - b) - 7 < 78
    omega
  · intro k hk
    have h := (Finset.mem_filter.1 hk).2
    exact Fin.ext (by show b + k.val - 7 + 7 - b = k.val; omega)
  · intro c hc
    have h := (Finset.mem_filter.1 hc).2
    exact Fin.ext (by show b + (c.val + 7 - b) - 7 = c.val; omega)
  · intro k hk
    rfl

/-- A window of 15 along one axis q, of 1 along the others: the sum of what is near along q. -/
theorem window_real {s : Shape} (window strides lo hi : Fin s.rank → ℕ) (q : Fin s.rank) (wq : window q = 15)
    (wo : ∀ a, a ≠ q → window a = 1) (hs : ∀ a, strides a = 1) (lq : lo q = 7) (l0 : ∀ a, a ≠ q → lo a = 0)
    (sq : s.size q = 78) (x : s.Idx → EReal) (X : s.Idx → ℝ) (hx : ∀ i, x i = (X i : EReal))
    (h : s.ReduceWindows window strides lo hi s) (j : s.Idx) :
    Ideal.hostReduceWindowAdd window strides lo hi h x ((0 : ℝ) : EReal) j
      = ((∑ c : Fin 78, near c (j q).val * X (Function.update j q (c.cast sq.symm)) : ℝ) : EReal) := by
  let W : Shape := ⟨s.rank, window⟩
  let f : ℕ → ℝ := fun c => if hc : c < 78 then X (Function.update j q ⟨c, by omega⟩) else 0
  let g : ℕ → ℝ := fun k => if 7 ≤ (j q).val + k ∧ (j q).val + k - 7 < 78 then f ((j q).val + k - 7) else 0
  unfold Ideal.hostReduceWindowAdd Host.reduceWindow
  dsimp only
  refine (fold_real (List.finRange W.numel) _ (fun n => g (W.rowMajor.symm n q).val) (fun n => ?_) 0).trans (congrArg _ ?_)
  · let e : W.Idx := W.rowMajor.symm n
    have e0 : ∀ a, a ≠ q → (e a).val = 0 := by
      intro a ha
      have h1 : (e a).val < window a := (e a).isLt
      rw [wo a ha] at h1
      omega
    have p : ∀ a, (j (a.cast h.1.symm)).val * strides a = (j a).val := by
      intro a
      rw [hs a, Nat.mul_one]
      rfl
    by_cases c : 7 ≤ (j q).val + (e q).val ∧ (j q).val + (e q).val - 7 < 78
    · have hin : ∀ a, lo a ≤ (j (a.cast h.1.symm)).val * strides a + (e a).val
          ∧ (j (a.cast h.1.symm)).val * strides a + (e a).val - lo a < s.size a := by
        intro a
        rw [p a]
        by_cases ha : a = q
        · subst ha; rw [lq]; exact ⟨c.1, lt_of_lt_of_eq c.2 sq.symm⟩
        · rw [l0 a ha, e0 a ha]; exact ⟨Nat.zero_le _, (j a).isLt⟩
      refine (dif_pos hin).trans ((hx _).trans (congrArg _ ?_))
      show _ = (if _ then _ else _ : ℝ)
      rw [if_pos c]
      show _ = (if hc : _ then _ else _ : ℝ)
      rw [dif_pos c.2]
      refine congrArg X ?_
      funext a
      by_cases ha : a = q
      · subst ha
        rw [Function.update_self]
        exact Fin.ext (by show (j (a.cast h.1.symm)).val * strides a + (e a).val - lo a = _; rw [p a, lq])
      · rw [Function.update_of_ne ha]
        exact Fin.ext (by show (j (a.cast h.1.symm)).val * strides a + (e a).val - lo a = _; rw [p a, l0 a ha, e0 a ha]; rfl)
    · refine (dif_neg ?_).trans (congrArg _ ?_)
      rotate_left
      · exact (if_neg c).symm
      · intro hin
        have t := hin q
        rw [p q, lq] at t
        exact c ⟨t.1, lt_of_lt_of_eq t.2 sq⟩
  rw [zero_add, ← Fin.sum_univ_def, Equiv.sum_comp W.rowMajor.symm (fun e : W.Idx => g (e q).val)]
  have b : Function.Bijective (fun e : W.Idx => (e q).cast wq) := by
    constructor
    · intro e e' he
      funext a
      by_cases ha : a = q
      · subst ha
        have v : (e a).val = (e' a).val := congrArg (fun k : Fin 15 => k.val) he
        exact Fin.ext v
      · have h1 : (e a).val < window a := (e a).isLt
        have h2 : (e' a).val < window a := (e' a).isLt
        rw [wo a ha] at h1 h2
        exact Fin.ext (by omega)
    · intro k
      have pos : ∀ a, 0 < W.size a := by
        intro a
        show 0 < window a
        by_cases ha : a = q
        · subst ha; omega
        · rw [wo a ha]; omega
      refine ⟨Function.update (fun a => ⟨0, pos a⟩) q (k.cast wq.symm), ?_⟩
      have v := congrArg Fin.val (Function.update_self (β := fun a => Fin (W.size a)) q (k.cast wq.symm) (fun a => ⟨0, pos a⟩))
      exact Fin.ext v
  rw [Fintype.sum_bijective _ b (fun e : W.Idx => g (e q).val) (fun k : Fin 15 => g k.val) (fun e => rfl)]
  refine (fifteen f (j q).val (sq ▸ (j q).isLt)).trans ?_
  refine Finset.sum_congr rfl fun c _ => ?_
  refine congrArg (near c (j q).val * ·) ?_
  exact dif_pos c.isLt

/-- A volume of n rows. -/
abbrev Vol (n : ℕ) : Shape := ⟨4, ![n, 78, 78, 78]⟩

section Boxes

variable {n : ℕ} (X : ℕ → ℕ → ℕ → ℕ → ℝ)

/-- The three windows over a volume of reals. -/
theorem along1 (x : (Vol n).Idx → EReal) (hx : ∀ (b : Fin n) (d h w : Fin 78), x (ix4 b d h w) = (X b d h w : EReal))
    (e : (Vol n).ReduceWindows ![1, 15, 1, 1] ![1, 1, 1, 1] ![0, 7, 0, 0] ![0, 7, 0, 0] (Vol n)) (b : Fin n) (d h w : Fin 78) :
    Ideal.hostReduceWindowAdd ![1, 15, 1, 1] ![1, 1, 1, 1] ![0, 7, 0, 0] ![0, 7, 0, 0] e x ((0 : ℝ) : EReal) (ix4 b d h w)
      = ((∑ c : Fin 78, near c d * X b c h w : ℝ) : EReal) := by
  refine window_real (s := Vol n) _ _ _ _ (1 : Fin 4) rfl
    (show ∀ a : Fin 4, a ≠ 1 → (![1, 15, 1, 1] : Fin 4 → ℕ) a = 1 by decide)
    (show ∀ a : Fin 4, (![1, 1, 1, 1] : Fin 4 → ℕ) a = 1 by decide) rfl
    (show ∀ a : Fin 4, a ≠ 1 → (![0, 7, 0, 0] : Fin 4 → ℕ) a = 0 by decide) rfl x
    (fun i => X (i 0).val (i 1).val (i 2).val (i 3).val) ?_ e (ix4 b d h w)
  intro i
  refine Eq.trans (congrArg x ?_) (hx (i 0) (i 1) (i 2) (i 3))
  funext a; fin_cases a <;> rfl

theorem along2 (x : (Vol n).Idx → EReal) (hx : ∀ (b : Fin n) (d h w : Fin 78), x (ix4 b d h w) = (X b d h w : EReal))
    (e : (Vol n).ReduceWindows ![1, 1, 15, 1] ![1, 1, 1, 1] ![0, 0, 7, 0] ![0, 0, 7, 0] (Vol n)) (b : Fin n) (d h w : Fin 78) :
    Ideal.hostReduceWindowAdd ![1, 1, 15, 1] ![1, 1, 1, 1] ![0, 0, 7, 0] ![0, 0, 7, 0] e x ((0 : ℝ) : EReal) (ix4 b d h w)
      = ((∑ c : Fin 78, near c h * X b d c w : ℝ) : EReal) := by
  refine window_real (s := Vol n) _ _ _ _ (2 : Fin 4) rfl
    (show ∀ a : Fin 4, a ≠ 2 → (![1, 1, 15, 1] : Fin 4 → ℕ) a = 1 by decide)
    (show ∀ a : Fin 4, (![1, 1, 1, 1] : Fin 4 → ℕ) a = 1 by decide) rfl
    (show ∀ a : Fin 4, a ≠ 2 → (![0, 0, 7, 0] : Fin 4 → ℕ) a = 0 by decide) rfl x
    (fun i => X (i 0).val (i 1).val (i 2).val (i 3).val) ?_ e (ix4 b d h w)
  intro i
  refine Eq.trans (congrArg x ?_) (hx (i 0) (i 1) (i 2) (i 3))
  funext a; fin_cases a <;> rfl

theorem along3 (x : (Vol n).Idx → EReal) (hx : ∀ (b : Fin n) (d h w : Fin 78), x (ix4 b d h w) = (X b d h w : EReal))
    (e : (Vol n).ReduceWindows ![1, 1, 1, 15] ![1, 1, 1, 1] ![0, 0, 0, 7] ![0, 0, 0, 7] (Vol n)) (b : Fin n) (d h w : Fin 78) :
    Ideal.hostReduceWindowAdd ![1, 1, 1, 15] ![1, 1, 1, 1] ![0, 0, 0, 7] ![0, 0, 0, 7] e x ((0 : ℝ) : EReal) (ix4 b d h w)
      = ((∑ c : Fin 78, near c w * X b d h c : ℝ) : EReal) := by
  refine window_real (s := Vol n) _ _ _ _ (3 : Fin 4) rfl
    (show ∀ a : Fin 4, a ≠ 3 → (![1, 1, 1, 15] : Fin 4 → ℕ) a = 1 by decide)
    (show ∀ a : Fin 4, (![1, 1, 1, 1] : Fin 4 → ℕ) a = 1 by decide) rfl
    (show ∀ a : Fin 4, a ≠ 3 → (![0, 0, 0, 7] : Fin 4 → ℕ) a = 0 by decide) rfl x
    (fun i => X (i 0).val (i 1).val (i 2).val (i 3).val) ?_ e (ix4 b d h w)
  intro i
  refine Eq.trans (congrArg x ?_) (hx (i 0) (i 1) (i 2) (i 3))
  funext a; fin_cases a <;> rfl

end Boxes

/-- How many positions are near to one. -/
theorem near_sum (m : Fin 78) : (∑ c : Fin 78, near c m : ℝ) = (count m : ℝ) := by
  have e : ∀ m : Fin 78, (∑ c : Fin 78, if c.val ≤ m.val + 7 ∧ m.val ≤ c.val + 7 then 1 else 0 : ℕ) = count m := by
    decide +kernel
  rw [← e m, Nat.cast_sum]
  refine Finset.sum_congr rfl fun c _ => ?_
  unfold near
  split <;> simp

section Volume

variable (x0 : (⟨S64x64x64, .f32⟩ : BufTy).Contents (Elt Ideal)) (x1 : (⟨S3x1x3x3x3, .f32⟩ : BufTy).Contents (Elt Ideal))

variable (hx : ∀ i, ∃ r : ℝ, x0 i = (r : EReal))
  (hw : ∀ (k : Fin 3) (a b c : Fin 3), x1 (ix5 k 0 a b c) = (((weight k a b c : ℤ) : ℝ) : EReal))

include hx hw in
theorem hist_real (b : Fin 64) (d h w : Fin 78) : val_main_v626 x0 x1 (ix4 b d h w) = ((vote x0 b d h w : ℝ) : EReal) := by
  refine Eq.trans ?_ (votes_real x0 x1 hx hw b d h w)
  refine shapeCast_apply _ _ _ (ix2 b (number d h w)) ?_
  rw [Shape.rowMajor_val_two, Shape.rowMajor_val_four]
  show b.val * 474552 + ((d.val * 78 + h.val) * 78 + w.val) = ((b.val * 78 + d.val) * 78 + h.val) * 78 + w.val
  omega

include hx hw in
/-- The sum over the box. -/
theorem boxes_real (b : Fin 64) (d h w : Fin 78) :
    val_main_v632 x0 x1 (ix4 b d h w)
      = ((∑ w' : Fin 78, near w' w * ∑ h' : Fin 78, near h' h * ∑ d' : Fin 78, near d' d * vote x0 b d' h' w' : ℝ) : EReal) := by
  have e1 : val_main_v628 x0 x1 = Ideal.hostReduceWindowAdd (s := Vol 64) ![1, 15, 1, 1] ![1, 1, 1, 1] ![0, 7, 0, 0] ![0, 7, 0, 0]
      reduceWindows_S64x78x78x78_S64x78x78x78_w1s1p0_0_w15s1p7_7_w1s1p0_0_w1s1p0_0 (val_main_v626 x0 x1) (fl 0#32) := rfl
  have e2 : val_main_v630 x0 x1 = Ideal.hostReduceWindowAdd (s := Vol 64) ![1, 1, 15, 1] ![1, 1, 1, 1] ![0, 0, 7, 0] ![0, 0, 7, 0]
      reduceWindows_S64x78x78x78_S64x78x78x78_w1s1p0_0_w1s1p0_0_w15s1p7_7_w1s1p0_0 (val_main_v628 x0 x1) (fl 0#32) := rfl
  have e3 : val_main_v632 x0 x1 = Ideal.hostReduceWindowAdd (s := Vol 64) ![1, 1, 1, 15] ![1, 1, 1, 1] ![0, 0, 0, 7] ![0, 0, 0, 7]
      reduceWindows_S64x78x78x78_S64x78x78x78_w1s1p0_0_w1s1p0_0_w1s1p0_0_w15s1p7_7 (val_main_v630 x0 x1) (fl 0#32) := rfl
  have z : fl 0#32 = ((0 : ℝ) : EReal) := ofBits_zero.trans EReal.coe_zero.symm
  rw [z] at e1 e2 e3
  rw [e3]
  refine along3 (fun b d h w => ∑ h' : Fin 78, near h' h * ∑ d' : Fin 78, near d' d * vote x0 b d' h' w) _ ?_ _ b d h w
  intro b d h w
  rw [e2]
  refine along2 (fun b d h w => ∑ d' : Fin 78, near d' d * vote x0 b d' h w) _ ?_ _ b d h w
  intro b d h w
  rw [e1]
  exact along1 (vote x0) _ (hist_real x0 x1 hx hw) _ b d h w

/-- The number of voxels of the box. -/
theorem counts_real (d h w : Fin 78) :
    val_main_v639 (F := Ideal) (ix4 (0 : Fin 1) d h w) = ((count d * count h * count w : ℝ) : EReal) := by
  have e1 : val_main_v635 (F := Ideal) = Ideal.hostReduceWindowAdd (s := Vol 1) ![1, 15, 1, 1] ![1, 1, 1, 1] ![0, 7, 0, 0] ![0, 7, 0, 0]
      reduceWindows_S1x78x78x78_S1x78x78x78_w1s1p0_0_w15s1p7_7_w1s1p0_0_w1s1p0_0 (val_main_v633 (F := Ideal)) (fl 0#32) := rfl
  have e2 : val_main_v637 (F := Ideal) = Ideal.hostReduceWindowAdd (s := Vol 1) ![1, 1, 15, 1] ![1, 1, 1, 1] ![0, 0, 7, 0] ![0, 0, 7, 0]
      reduceWindows_S1x78x78x78_S1x78x78x78_w1s1p0_0_w1s1p0_0_w15s1p7_7_w1s1p0_0 (val_main_v635 (F := Ideal)) (fl 0#32) := rfl
  have e3 : val_main_v639 (F := Ideal) = Ideal.hostReduceWindowAdd (s := Vol 1) ![1, 1, 1, 15] ![1, 1, 1, 1] ![0, 0, 0, 7] ![0, 0, 0, 7]
      reduceWindows_S1x78x78x78_S1x78x78x78_w1s1p0_0_w1s1p0_0_w1s1p0_0_w15s1p7_7 (val_main_v637 (F := Ideal)) (fl 0#32) := rfl
  have z : fl 0#32 = ((0 : ℝ) : EReal) := ofBits_zero.trans EReal.coe_zero.symm
  rw [z] at e1 e2 e3
  have one : ∀ (b : Fin 1) (d h w : Fin 78), val_main_v633 (F := Ideal) (ix4 b d h w) = ((1 : ℝ) : EReal) :=
    fun _ _ _ _ => ofBits_one
  have s1 : ∀ (b : Fin 1) (d h w : Fin 78), val_main_v635 (F := Ideal) (ix4 b d h w) = ((count d : ℝ) : EReal) := by
    intro b d h w
    rw [e1]
    refine (along1 (fun _ _ _ _ => 1) _ one _ b d h w).trans (congrArg _ ?_)
    simp only [mul_one]
    exact near_sum d
  have s2 : ∀ (b : Fin 1) (d h w : Fin 78), val_main_v637 (F := Ideal) (ix4 b d h w) = ((count d * count h : ℝ) : EReal) := by
    intro b d h w
    rw [e2]
    refine (along2 (fun _ d _ _ => (count d : ℝ)) _ s1 _ b d h w).trans (congrArg _ ?_)
    rw [← Finset.sum_mul, near_sum, mul_comm]
  rw [e3]
  refine (along3 (fun _ d h _ => (count d * count h : ℝ)) _ s2 _ 0 d h w).trans (congrArg _ ?_)
  rw [← Finset.sum_mul, near_sum, mul_comm]

include hx hw in
/-- The reference at one bin and one voxel. -/
theorem result_real (b : Fin 64) (d h w : Fin 78) :
    val_main_v641 x0 x1 (ix4 b d h w) = ((mean x0 b d h w : ℝ) : EReal) := by
  have c : val_main_v640 (F := Ideal) (ix4 b d h w) = ((count d * count h * count w : ℝ) : EReal) := by
    rw [val_main_v640_apply, ← counts_real d h w]
    refine congrArg _ ?_
    funext a; fin_cases a <;> rfl
  rw [val_main_v641_apply, boxes_real x0 x1 hx hw, c, Ideal.hostDivf_def, div_real _ _
    (mul_ne_zero (mul_ne_zero (count_pos d) (count_pos h)) (count_pos w))]
  refine congrArg _ ?_
  unfold mean
  refine congrArg (· / _) ?_
  simp only [Finset.mul_sum]
  rw [Finset.sum_comm]
  refine Eq.trans (Finset.sum_congr rfl fun h' _ => Finset.sum_comm) ?_
  rw [Finset.sum_comm]
  refine Finset.sum_congr rfl fun d' _ => Finset.sum_congr rfl fun h' _ => Finset.sum_congr rfl fun w' _ => ?_
  ring

end Volume

end Cert.Hog.Ref

end
-- ==== Proof.lean ====
/-  The proof of the claim: the three frames, the constant that the idealized kernel names, and the equality of the two
    results. Both programs end with the mean of Proof/Mean.lean: the kernel by Proof/KernelArray.lean, the reference by
    Proof/RefBox.lean. -/
module

public import proofs.«01_k».proof.Defs
public import proofs.«01_k».proof.Proof.KernelArray
public import proofs.«01_k».proof.Proof.RefBox
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_central
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs at the machine's floats, leaves its arguments and settles its semaphores. -/
theorem frame_kernel : Cert.quiescent_Kernel := fun m g _ => Cert.Kernel.Gen.frame m g

/-- So does the idealized kernel. -/
theorem frame_ideal : Cert.quiescent_KernelIdeal := fun m g _ => Cert.KernelIdeal.Gen.frame m g

theorem frame_ideal_pre : Cert.quiescent_KernelIdeal_pre_finite_and_central := fun m g _ => Cert.KernelIdeal.Gen.frame m g

/-- The reference has no semaphore, and its run leaves its arguments. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_finite_and_central := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is the kernel's word when it is rounded to a float. -/
theorem preserves : Cert.preserves_Kernel_KernelIdeal :=
  IdealRules.named_const.statement Cert.KernelIdeal.κ "bins_per_radian" .f32 0x4022F983#32
    ((33554432 / 13176795 : ℝ) : EReal) rfl

/-- What both programs leave on a device: at every bin and voxel, the mean over the box. -/
def meant (m : (ℓ : Loc Cert.KernelIdeal.nD Cert.KernelIdeal.τ Cert.KernelIdeal.sig) → Buf (Elt Ideal) ℓ)
    (c : Dev Cert.KernelIdeal.nD) : (⟨4, ![64, 78, 78, 78]⟩ : Shape).Idx → EReal :=
  fun i => ((Cert.Hog.mean (Cert.Hog.Kernel.input m c) (i 0).val (i 1).val (i 2).val (i 3).val : ℝ) : EReal)

theorem reference_result (x0 : (⟨Cert.ReferenceIdeal.S64x64x64, .f32⟩ : BufTy).Contents (Elt Ideal))
    (x1 : (⟨Cert.ReferenceIdeal.S3x1x3x3x3, .f32⟩ : BufTy).Contents (Elt Ideal))
    (h0 : (Cert.Pre_finite_and_central.fn (F := Ideal) x0 x1).1 = fun _ => 1#1)
    (h1 : (Cert.Pre_finite_and_central.fn (F := Ideal) x0 x1).2 = fun _ => 1#1) :
    Cert.ReferenceIdeal.Read.val_main_v641 x0 x1
      = fun i => ((Cert.Hog.mean x0 (i 0).val (i 1).val (i 2).val (i 3).val : ℝ) : EReal) := by
  funext i
  refine Eq.trans (congrArg _ ?_)
    (Cert.Hog.Ref.result_real x0 x1 (Cert.Hog.Ref.finite_of x0 x1 h0) (Cert.Hog.Ref.weight_of x0 x1 h1) (i 0) (i 1) (i 2) (i 3))
  funext a; fin_cases a <;> rfl

/-- The two results are equal. -/
theorem algebraic : Cert.algebraic_KernelIdeal_ReferenceIdeal_pre_finite_and_central := by
  intro m g m' g' hp ha
  refine ⟨meant m, ?_, ?_⟩
  · refine (θ_run Cert.KernelIdeal.defs _ _).mono (fun r h c => ⟨(h c).1.trans ?_, (h c).2⟩)
      (Cert.KernelIdeal.Value.run_blocks (F := Ideal) m g)
    exact Cert.Hog.Kernel.result m c (Cert.Hog.Ref.finite_of _ _ (hp c).1)
  · refine (θ_run Cert.ReferenceIdeal.defs _ _).mono (fun r h c => ⟨(h c).1.trans ?_, (h c).2⟩)
      (Cert.ReferenceIdeal.Value.run (F := Ideal) m' g')
    refine (Cert.ReferenceIdeal.Read.val_main_v641_eq (StableHlo.launchContents m' c)).trans ?_
    have e0 : StableHlo.launchContents m' c (Proc.devRef .tc Cert.ReferenceIdeal.main_arg0) = Cert.Hog.Kernel.input m c := (ha c).1
    have e1 : StableHlo.launchContents m' c (Proc.devRef .tc Cert.ReferenceIdeal.main_arg1)
        = m ((c.tc : Thread Cert.KernelIdeal.nD Cert.KernelIdeal.τ).loc Cert.KernelIdeal.main_arg1) := (ha c).2
    rw [e0, e1]
    exact reference_result _ _ (hp c).1 (hp c).2

theorem claim : Cert.Claim :=
  ⟨Cert.Kernel.Gen.facts, Cert.KernelIdeal.Gen.facts, Cert.ReferenceIdeal.Gen.facts, Cert.Pre_finite_and_central.Gen.facts,
    frame_kernel, frame_ideal, frame_ideal_pre, frame_reference, frame_reference_pre,
    preserves, algebraic⟩

end Cert.Proof

end
